-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048 : Shape := ⟨2, ![1, 2048]⟩
abbrev S2048x4096 : Shape := ⟨2, ![2048, 4096]⟩
abbrev S4096 : Shape := ⟨1, ![4096]⟩
abbrev S16384x4096 : Shape := ⟨2, ![16384, 4096]⟩
abbrev S16384x2048 : Shape := ⟨2, ![16384, 2048]⟩
abbrev S1x4096 : Shape := ⟨2, ![1, 4096]⟩
abbrev S1024x2048 : Shape := ⟨2, ![1024, 2048]⟩
abbrev S512x4096 : Shape := ⟨2, ![512, 4096]⟩
abbrev S2048x1 : Shape := ⟨2, ![2048, 1]⟩
abbrev S2048 : Shape := ⟨1, ![2048]⟩
abbrev S512x1 : Shape := ⟨2, ![512, 1]⟩
abbrev S32x16 : Shape := ⟨2, ![32, 16]⟩
abbrev S8x4096 : Shape := ⟨2, ![8, 4096]⟩
abbrev S16 : Shape := ⟨1, ![16]⟩
abbrev S_ : Shape := ⟨0, ![]⟩
abbrev S1x16 : Shape := ⟨2, ![1, 16]⟩
abbrev S1x1 : Shape := ⟨2, ![1, 1]⟩
abbrev S1 : Shape := ⟨1, ![1]⟩
abbrev S4096x1 : Shape := ⟨2, ![4096, 1]⟩
abbrev S1x512x1 : Shape := ⟨3, ![1, 512, 1]⟩
abbrev S1x1x1 : Shape := ⟨3, ![1, 1, 1]⟩

abbrev nBuf : Table → Nat
  | .hbm => 14
  | .local .tc .vmem => 15
  | .local .tc .smem => 1
  | .local .scVector .vmem => 5
  | _ => 0

abbrev bufTy : (tb : Table) → Fin (nBuf tb) → BufTy
  | .hbm, ⟨0, _⟩ => ⟨S1x2048, .f32⟩
  | .hbm, ⟨1, _⟩ => ⟨S2048x4096, .f32⟩
  | .hbm, ⟨2, _⟩ => ⟨S4096, .f32⟩
  | .hbm, ⟨3, _⟩ => ⟨S16384x4096, .f32⟩
  | .hbm, ⟨4, _⟩ => ⟨S16384x2048, .f32⟩
  | .hbm, ⟨5, _⟩ => ⟨S1x4096, .f32⟩
  | .hbm, ⟨6, _⟩ => ⟨S1x4096, .f32⟩
  | .hbm, ⟨7, _⟩ => ⟨S4096, .f32⟩
  | .hbm, ⟨8, _⟩ => ⟨S32x16, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local .tc .vmem, ⟨0, _⟩ => ⟨S1x2048, .f32⟩
  | .local .tc .vmem, ⟨1, _⟩ => ⟨S1024x2048, .f32⟩
  | .local .tc .vmem, ⟨2, _⟩ => ⟨S1024x2048, .f32⟩
  | .local .tc .vmem, ⟨3, _⟩ => ⟨S512x4096, .f32⟩
  | .local .tc .vmem, ⟨4, _⟩ => ⟨S512x4096, .f32⟩
  | .local .tc .vmem, ⟨5, _⟩ => ⟨S1x4096, .f32⟩
  | .local .tc .vmem, ⟨6, _⟩ => ⟨S1x4096, .f32⟩
  | .local .tc .vmem, ⟨7, _⟩ => ⟨S1x2048, .f32⟩
  | .local .tc .vmem, ⟨8, _⟩ => ⟨S1x2048, .f32⟩
  | .local .tc .vmem, ⟨9, _⟩ => ⟨S2048x1, .f32⟩
  | .local .tc .vmem, ⟨10, _⟩ => ⟨S1x4096, .f32⟩
  | .local .tc .vmem, ⟨11, _⟩ => ⟨S1x4096, .f32⟩
  | .local .tc .vmem, ⟨12, _⟩ => ⟨S512x4096, .f32⟩
  | .local .tc .vmem, ⟨13, _⟩ => ⟨S512x4096, .f32⟩
  | .local .tc .vmem, ⟨14, _⟩ => ⟨S1x1, .f32⟩
  | .local .tc .smem, ⟨0, _⟩ => ⟨S1, .f32⟩
  | .local .scVector .vmem, ⟨0, _⟩ => ⟨S4096, .f32⟩
  | .local .scVector .vmem, ⟨1, _⟩ => ⟨S8x4096, .f32⟩
  | .local .scVector .vmem, ⟨2, _⟩ => ⟨S8x4096, .f32⟩
  | .local .scVector .vmem, ⟨3, _⟩ => ⟨S16, .f32⟩
  | .local .scVector .vmem, ⟨4, _⟩ => ⟨S16, .f32⟩
  | _, _ => ⟨S1x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v2_scv : Ref sig .scVector := ⟨.hbm, 7, rfl⟩
abbrev main_arg3_scv : Ref sig .scVector := ⟨.hbm, 3, rfl⟩
abbrev main_v3_scv : Ref sig .scVector := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_scratch0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc2_sem0_0 : DmaSem sig := 11
abbrev cc2_sem1_0 : DmaSem sig := 12
abbrev cc2_sem1_1 : DmaSem sig := 13
abbrev cc2_sem2_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![20], ![false]⟩

def k0_cond5 (i : grid0.Coords) : BitVec 1 :=
  let arg0 : BitVec 32 := BitVec.ofNat 32 (i 0).val
  let c16_i32_1 : BitVec 32 := 16#32
  let v6 : BitVec 1 := Scalar.cmpi .sge arg0 c16_i32_1
  let v7 : BitVec 32 := Scalar.extui v6
  let c0_i32_2 : BitVec 32 := 0#32
  let v8 : BitVec 1 := Scalar.cmpi .ne v7 c0_i32_2
  v8

def k0_off1 (i : grid0.Coords) : Fin 2 → Nat :=
  let arg0 : BitVec 32 := BitVec.ofNat 32 (i 0).val
  let c16_i32_3 : BitVec 32 := 16#32
  let v9 : BitVec 32 := Scalar.subi arg0 c16_i32_3
  let c512_i32 : BitVec 32 := 512#32
  let v10 : BitVec 32 := Scalar.muli v9 c512_i32
  let v11 : Index := Scalar.indexCast v10
  let c0 : Index := 0#32
  ![v11.toNat, 0]
def k0_cond8 (i : grid0.Coords) : BitVec 1 :=
  let arg0 : BitVec 32 := BitVec.ofNat 32 (i 0).val
  let c16_i32_3 : BitVec 32 := 16#32
  let v9 : BitVec 32 := Scalar.subi arg0 c16_i32_3
  let c3_i32 : BitVec 32 := 3#32
  let v24 : BitVec 1 := Scalar.cmpi .eq v9 c3_i32
  let v25 : BitVec 32 := Scalar.extui v24
  let c0_i32_10 : BitVec 32 := 0#32
  let v26 : BitVec 1 := Scalar.cmpi .ne v25 c0_i32_10
  v26

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32 : BitVec 32 := 224#32
  let v2 : BitVec 32 := Scalar.muli v1 c224_i32
  let c0_i32 : BitVec 32 := 0#32
  ![v2.toNat, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32 : BitVec 32 := 224#32
  let v2 : BitVec 32 := Scalar.muli v1 c224_i32
  let c8_i32 : BitVec 32 := 8#32
  let v5 : BitVec 32 := Scalar.addi v2 c8_i32
  let c0_i32_1 : BitVec 32 := 0#32
  ![v5.toNat, 0]
@[reducible] def k1_t1_loop : Scf.Loop 32 :=
  let c0_i32_3 : BitVec 32 := 0#32
  let c14_i32 : BitVec 32 := 14#32
  let v9 : BitVec 32 := Scalar.addi c0_i32_3 c14_i32
  let c1_i32 : BitVec 32 := 1#32
  ⟨c0_i32_3, v9, c1_i32⟩
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32 : BitVec 32 := 224#32
  let v2 : BitVec 32 := Scalar.muli v1 c224_i32
  let c0_i32_11 : BitVec 32 := 0#32
  ![v2.toNat, 0]
@[reducible] def k1_t2_loop : Scf.Loop 32 :=
  let c0_i32_21 : BitVec 32 := 0#32
  let c256_i32 : BitVec 32 := 256#32
  let v30 : BitVec 32 := Scalar.addi c0_i32_21 c256_i32
  let c1_i32_22 : BitVec 32 := 1#32
  ⟨c0_i32_21, v30, c1_i32_22⟩
def k1_off4 (k1_t2 : Fin k1_t2_loop.trips) : Fin 1 → Nat :=
  let c0_i32_21 : BitVec 32 := 0#32
  let c1_i32_22 : BitVec 32 := 1#32
  let arg15 : BitVec 32 := Scf.iv c0_i32_21 c1_i32_22 k1_t2
  let c16_i32 : BitVec 32 := 16#32
  let v538 : BitVec 32 := Scalar.muli arg15 c16_i32
  let v539 : Index := Scalar.indexCast v538
  ![v539.toNat]
def k1_off5 (k1_t2 : Fin k1_t2_loop.trips) : Fin 2 → Nat :=
  let c0_i32_177 : BitVec 32 := 0#32
  let v543 : Index := Scalar.indexCast c0_i32_177
  let c0_i32_21 : BitVec 32 := 0#32
  let c1_i32_22 : BitVec 32 := 1#32
  let arg15 : BitVec 32 := Scf.iv c0_i32_21 c1_i32_22 k1_t2
  let c16_i32_176 : BitVec 32 := 16#32
  let v542 : BitVec 32 := Scalar.muli arg15 c16_i32_176
  let v544 : Index := Scalar.indexCast v542
  ![0, v544.toNat]
def k1_off6 (k1_t2 : Fin k1_t2_loop.trips) : Fin 2 → Nat :=
  let c1_i32_179 : BitVec 32 := 1#32
  let v551 : Index := Scalar.indexCast c1_i32_179
  let c0_i32_21 : BitVec 32 := 0#32
  let c1_i32_22 : BitVec 32 := 1#32
  let arg15 : BitVec 32 := Scf.iv c0_i32_21 c1_i32_22 k1_t2
  let c16_i32_178 : BitVec 32 := 16#32
  let v550 : BitVec 32 := Scalar.muli arg15 c16_i32_178
  let v552 : Index := Scalar.indexCast v550
  ![1, v552.toNat]
def k1_off7 (k1_t2 : Fin k1_t2_loop.trips) : Fin 2 → Nat :=
  let c2_i32_181 : BitVec 32 := 2#32
  let v559 : Index := Scalar.indexCast c2_i32_181
  let c0_i32_21 : BitVec 32 := 0#32
  let c1_i32_22 : BitVec 32 := 1#32
  let arg15 : BitVec 32 := Scf.iv c0_i32_21 c1_i32_22 k1_t2
  let c16_i32_180 : BitVec 32 := 16#32
  let v558 : BitVec 32 := Scalar.muli arg15 c16_i32_180
  let v560 : Index := Scalar.indexCast v558
  ![2, v560.toNat]
def k1_off8 (k1_t2 : Fin k1_t2_loop.trips) : Fin 2 → Nat :=
  let c3_i32 : BitVec 32 := 3#32
  let v567 : Index := Scalar.indexCast c3_i32
  let c0_i32_21 : BitVec 32 := 0#32
  let c1_i32_22 : BitVec 32 := 1#32
  let arg15 : BitVec 32 := Scf.iv c0_i32_21 c1_i32_22 k1_t2
  let c16_i32_182 : BitVec 32 := 16#32
  let v566 : BitVec 32 := Scalar.muli arg15 c16_i32_182
  let v568 : Index := Scalar.indexCast v566
  ![3, v568.toNat]
def k1_off9 (k1_t2 : Fin k1_t2_loop.trips) : Fin 2 → Nat :=
  let c4_i32_184 : BitVec 32 := 4#32
  let v575 : Index := Scalar.indexCast c4_i32_184
  let c0_i32_21 : BitVec 32 := 0#32
  let c1_i32_22 : BitVec 32 := 1#32
  let arg15 : BitVec 32 := Scf.iv c0_i32_21 c1_i32_22 k1_t2
  let c16_i32_183 : BitVec 32 := 16#32
  let v574 : BitVec 32 := Scalar.muli arg15 c16_i32_183
  let v576 : Index := Scalar.indexCast v574
  ![4, v576.toNat]
def k1_off10 (k1_t2 : Fin k1_t2_loop.trips) : Fin 2 → Nat :=
  let c5_i32 : BitVec 32 := 5#32
  let v583 : Index := Scalar.indexCast c5_i32
  let c0_i32_21 : BitVec 32 := 0#32
  let c1_i32_22 : BitVec 32 := 1#32
  let arg15 : BitVec 32 := Scf.iv c0_i32_21 c1_i32_22 k1_t2
  let c16_i32_185 : BitVec 32 := 16#32
  let v582 : BitVec 32 := Scalar.muli arg15 c16_i32_185
  let v584 : Index := Scalar.indexCast v582
  ![5, v584.toNat]
def k1_off11 (k1_t2 : Fin k1_t2_loop.trips) : Fin 2 → Nat :=
  let c6_i32 : BitVec 32 := 6#32
  let v591 : Index := Scalar.indexCast c6_i32
  let c0_i32_21 : BitVec 32 := 0#32
  let c1_i32_22 : BitVec 32 := 1#32
  let arg15 : BitVec 32 := Scf.iv c0_i32_21 c1_i32_22 k1_t2
  let c16_i32_186 : BitVec 32 := 16#32
  let v590 : BitVec 32 := Scalar.muli arg15 c16_i32_186
  let v592 : Index := Scalar.indexCast v590
  ![6, v592.toNat]
def k1_off12 (k1_t2 : Fin k1_t2_loop.trips) : Fin 2 → Nat :=
  let c7_i32 : BitVec 32 := 7#32
  let v599 : Index := Scalar.indexCast c7_i32
  let c0_i32_21 : BitVec 32 := 0#32
  let c1_i32_22 : BitVec 32 := 1#32
  let arg15 : BitVec 32 := Scf.iv c0_i32_21 c1_i32_22 k1_t2
  let c16_i32_187 : BitVec 32 := 16#32
  let v598 : BitVec 32 := Scalar.muli arg15 c16_i32_187
  let v600 : Index := Scalar.indexCast v598
  ![7, v600.toNat]

def k1_chk1 (v34 : IVec S16 32) : Prop :=
  (∀ a x, ((![v34] : Fin 1 → IVec S16 32) a x).toNat < S16.size a)
theorem k1_idx1_inb : ∀ (v34 : IVec S16 32) (k1_hw1 : k1_chk1 v34), ∀ a x, ((![v34] : Fin 1 → IVec S16 32) a x).toNat < S16.size a := fun v34 k1_hw1 => k1_hw1

def k1_chk2 (v41 : IVec S16 32) : Prop :=
  (∀ a x, ((![v41] : Fin 1 → IVec S16 32) a x).toNat < S16.size a)
theorem k1_idx2_inb : ∀ (v41 : IVec S16 32) (k1_hw2 : k1_chk2 v41), ∀ a x, ((![v41] : Fin 1 → IVec S16 32) a x).toNat < S16.size a := fun v41 k1_hw2 => k1_hw2

def k1_chk3 (v48 : IVec S16 32) : Prop :=
  (∀ a x, ((![v48] : Fin 1 → IVec S16 32) a x).toNat < S16.size a)
theorem k1_idx3_inb : ∀ (v48 : IVec S16 32) (k1_hw3 : k1_chk3 v48), ∀ a x, ((![v48] : Fin 1 → IVec S16 32) a x).toNat < S16.size a := fun v48 k1_hw3 => k1_hw3

def k1_chk4 (v55 : IVec S16 32) : Prop :=
  (∀ a x, ((![v55] : Fin 1 → IVec S16 32) a x).toNat < S16.size a)
theorem k1_idx4_inb : ∀ (v55 : IVec S16 32) (k1_hw4 : k1_chk4 v55), ∀ a x, ((![v55] : Fin 1 → IVec S16 32) a x).toNat < S16.size a := fun v55 k1_hw4 => k1_hw4

def k1_chk5 (v64 : IVec S16 32) : Prop :=
  (∀ a x, ((![v64] : Fin 1 → IVec S16 32) a x).toNat < S16.size a)
theorem k1_idx5_inb : ∀ (v64 : IVec S16 32) (k1_hw5 : k1_chk5 v64), ∀ a x, ((![v64] : Fin 1 → IVec S16 32) a x).toNat < S16.size a := fun v64 k1_hw5 => k1_hw5

def k1_chk6 (v71 : IVec S16 32) : Prop :=
  (∀ a x, ((![v71] : Fin 1 → IVec S16 32) a x).toNat < S16.size a)
theorem k1_idx6_inb : ∀ (v71 : IVec S16 32) (k1_hw6 : k1_chk6 v71), ∀ a x, ((![v71] : Fin 1 → IVec S16 32) a x).toNat < S16.size a := fun v71 k1_hw6 => k1_hw6

def k1_chk7 (v78 : IVec S16 32) : Prop :=
  (∀ a x, ((![v78] : Fin 1 → IVec S16 32) a x).toNat < S16.size a)
theorem k1_idx7_inb : ∀ (v78 : IVec S16 32) (k1_hw7 : k1_chk7 v78), ∀ a x, ((![v78] : Fin 1 → IVec S16 32) a x).toNat < S16.size a := fun v78 k1_hw7 => k1_hw7

def k1_chk8 (v85 : IVec S16 32) : Prop :=
  (∀ a x, ((![v85] : Fin 1 → IVec S16 32) a x).toNat < S16.size a)
theorem k1_idx8_inb : ∀ (v85 : IVec S16 32) (k1_hw8 : k1_chk8 v85), ∀ a x, ((![v85] : Fin 1 → IVec S16 32) a x).toNat < S16.size a := fun v85 k1_hw8 => k1_hw8

def k1_chk9 (v94 : IVec S16 32) : Prop :=
  (∀ a x, ((![v94] : Fin 1 → IVec S16 32) a x).toNat < S16.size a)
theorem k1_idx9_inb : ∀ (v94 : IVec S16 32) (k1_hw9 : k1_chk9 v94), ∀ a x, ((![v94] : Fin 1 → IVec S16 32) a x).toNat < S16.size a := fun v94 k1_hw9 => k1_hw9

def k1_chk10 (v101 : IVec S16 32) : Prop :=
  (∀ a x, ((![v101] : Fin 1 → IVec S16 32) a x).toNat < S16.size a)
theorem k1_idx10_inb : ∀ (v101 : IVec S16 32) (k1_hw10 : k1_chk10 v101), ∀ a x, ((![v101] : Fin 1 → IVec S16 32) a x).toNat < S16.size a := fun v101 k1_hw10 => k1_hw10

def k1_chk11 (v108 : IVec S16 32) : Prop :=
  (∀ a x, ((![v108] : Fin 1 → IVec S16 32) a x).toNat < S16.size a)
theorem k1_idx11_inb : ∀ (v108 : IVec S16 32) (k1_hw11 : k1_chk11 v108), ∀ a x, ((![v108] : Fin 1 → IVec S16 32) a x).toNat < S16.size a := fun v108 k1_hw11 => k1_hw11

def k1_chk12 (v115 : IVec S16 32) : Prop :=
  (∀ a x, ((![v115] : Fin 1 → IVec S16 32) a x).toNat < S16.size a)
theorem k1_idx12_inb : ∀ (v115 : IVec S16 32) (k1_hw12 : k1_chk12 v115), ∀ a x, ((![v115] : Fin 1 → IVec S16 32) a x).toNat < S16.size a := fun v115 k1_hw12 => k1_hw12

def k1_chk13 (v124 : IVec S16 32) : Prop :=
  (∀ a x, ((![v124] : Fin 1 → IVec S16 32) a x).toNat < S16.size a)
theorem k1_idx13_inb : ∀ (v124 : IVec S16 32) (k1_hw13 : k1_chk13 v124), ∀ a x, ((![v124] : Fin 1 → IVec S16 32) a x).toNat < S16.size a := fun v124 k1_hw13 => k1_hw13

def k1_chk14 (v131 : IVec S16 32) : Prop :=
  (∀ a x, ((![v131] : Fin 1 → IVec S16 32) a x).toNat < S16.size a)
theorem k1_idx14_inb : ∀ (v131 : IVec S16 32) (k1_hw14 : k1_chk14 v131), ∀ a x, ((![v131] : Fin 1 → IVec S16 32) a x).toNat < S16.size a := fun v131 k1_hw14 => k1_hw14

def k1_chk15 (v138 : IVec S16 32) : Prop :=
  (∀ a x, ((![v138] : Fin 1 → IVec S16 32) a x).toNat < S16.size a)
theorem k1_idx15_inb : ∀ (v138 : IVec S16 32) (k1_hw15 : k1_chk15 v138), ∀ a x, ((![v138] : Fin 1 → IVec S16 32) a x).toNat < S16.size a := fun v138 k1_hw15 => k1_hw15

def k1_chk16 (v145 : IVec S16 32) : Prop :=
  (∀ a x, ((![v145] : Fin 1 → IVec S16 32) a x).toNat < S16.size a)
theorem k1_idx16_inb : ∀ (v145 : IVec S16 32) (k1_hw16 : k1_chk16 v145), ∀ a x, ((![v145] : Fin 1 → IVec S16 32) a x).toNat < S16.size a := fun v145 k1_hw16 => k1_hw16

def k1_chk17 (v154 : IVec S16 32) : Prop :=
  (∀ a x, ((![v154] : Fin 1 → IVec S16 32) a x).toNat < S16.size a)
theorem k1_idx17_inb : ∀ (v154 : IVec S16 32) (k1_hw17 : k1_chk17 v154), ∀ a x, ((![v154] : Fin 1 → IVec S16 32) a x).toNat < S16.size a := fun v154 k1_hw17 => k1_hw17

def k1_chk18 (v161 : IVec S16 32) : Prop :=
  (∀ a x, ((![v161] : Fin 1 → IVec S16 32) a x).toNat < S16.size a)
theorem k1_idx18_inb : ∀ (v161 : IVec S16 32) (k1_hw18 : k1_chk18 v161), ∀ a x, ((![v161] : Fin 1 → IVec S16 32) a x).toNat < S16.size a := fun v161 k1_hw18 => k1_hw18

def k1_chk19 (v168 : IVec S16 32) : Prop :=
  (∀ a x, ((![v168] : Fin 1 → IVec S16 32) a x).toNat < S16.size a)
theorem k1_idx19_inb : ∀ (v168 : IVec S16 32) (k1_hw19 : k1_chk19 v168), ∀ a x, ((![v168] : Fin 1 → IVec S16 32) a x).toNat < S16.size a := fun v168 k1_hw19 => k1_hw19

def k1_chk20 (v175 : IVec S16 32) : Prop :=
  (∀ a x, ((![v175] : Fin 1 → IVec S16 32) a x).toNat < S16.size a)
theorem k1_idx20_inb : ∀ (v175 : IVec S16 32) (k1_hw20 : k1_chk20 v175), ∀ a x, ((![v175] : Fin 1 → IVec S16 32) a x).toNat < S16.size a := fun v175 k1_hw20 => k1_hw20

def k1_chk21 (v184 : IVec S16 32) : Prop :=
  (∀ a x, ((![v184] : Fin 1 → IVec S16 32) a x).toNat < S16.size a)
theorem k1_idx21_inb : ∀ (v184 : IVec S16 32) (k1_hw21 : k1_chk21 v184), ∀ a x, ((![v184] : Fin 1 → IVec S16 32) a x).toNat < S16.size a := fun v184 k1_hw21 => k1_hw21

def k1_chk22 (v191 : IVec S16 32) : Prop :=
  (∀ a x, ((![v191] : Fin 1 → IVec S16 32) a x).toNat < S16.size a)
theorem k1_idx22_inb : ∀ (v191 : IVec S16 32) (k1_hw22 : k1_chk22 v191), ∀ a x, ((![v191] : Fin 1 → IVec S16 32) a x).toNat < S16.size a := fun v191 k1_hw22 => k1_hw22

def k1_chk23 (v198 : IVec S16 32) : Prop :=
  (∀ a x, ((![v198] : Fin 1 → IVec S16 32) a x).toNat < S16.size a)
theorem k1_idx23_inb : ∀ (v198 : IVec S16 32) (k1_hw23 : k1_chk23 v198), ∀ a x, ((![v198] : Fin 1 → IVec S16 32) a x).toNat < S16.size a := fun v198 k1_hw23 => k1_hw23

def k1_chk24 (v205 : IVec S16 32) : Prop :=
  (∀ a x, ((![v205] : Fin 1 → IVec S16 32) a x).toNat < S16.size a)
theorem k1_idx24_inb : ∀ (v205 : IVec S16 32) (k1_hw24 : k1_chk24 v205), ∀ a x, ((![v205] : Fin 1 → IVec S16 32) a x).toNat < S16.size a := fun v205 k1_hw24 => k1_hw24

def k1_chk25 (v214 : IVec S16 32) : Prop :=
  (∀ a x, ((![v214] : Fin 1 → IVec S16 32) a x).toNat < S16.size a)
theorem k1_idx25_inb : ∀ (v214 : IVec S16 32) (k1_hw25 : k1_chk25 v214), ∀ a x, ((![v214] : Fin 1 → IVec S16 32) a x).toNat < S16.size a := fun v214 k1_hw25 => k1_hw25

def k1_chk26 (v221 : IVec S16 32) : Prop :=
  (∀ a x, ((![v221] : Fin 1 → IVec S16 32) a x).toNat < S16.size a)
theorem k1_idx26_inb : ∀ (v221 : IVec S16 32) (k1_hw26 : k1_chk26 v221), ∀ a x, ((![v221] : Fin 1 → IVec S16 32) a x).toNat < S16.size a := fun v221 k1_hw26 => k1_hw26

def k1_chk27 (v228 : IVec S16 32) : Prop :=
  (∀ a x, ((![v228] : Fin 1 → IVec S16 32) a x).toNat < S16.size a)
theorem k1_idx27_inb : ∀ (v228 : IVec S16 32) (k1_hw27 : k1_chk27 v228), ∀ a x, ((![v228] : Fin 1 → IVec S16 32) a x).toNat < S16.size a := fun v228 k1_hw27 => k1_hw27

def k1_chk28 (v235 : IVec S16 32) : Prop :=
  (∀ a x, ((![v235] : Fin 1 → IVec S16 32) a x).toNat < S16.size a)
theorem k1_idx28_inb : ∀ (v235 : IVec S16 32) (k1_hw28 : k1_chk28 v235), ∀ a x, ((![v235] : Fin 1 → IVec S16 32) a x).toNat < S16.size a := fun v235 k1_hw28 => k1_hw28

def k1_chk29 (v244 : IVec S16 32) : Prop :=
  (∀ a x, ((![v244] : Fin 1 → IVec S16 32) a x).toNat < S16.size a)
theorem k1_idx29_inb : ∀ (v244 : IVec S16 32) (k1_hw29 : k1_chk29 v244), ∀ a x, ((![v244] : Fin 1 → IVec S16 32) a x).toNat < S16.size a := fun v244 k1_hw29 => k1_hw29

def k1_chk30 (v251 : IVec S16 32) : Prop :=
  (∀ a x, ((![v251] : Fin 1 → IVec S16 32) a x).toNat < S16.size a)
theorem k1_idx30_inb : ∀ (v251 : IVec S16 32) (k1_hw30 : k1_chk30 v251), ∀ a x, ((![v251] : Fin 1 → IVec S16 32) a x).toNat < S16.size a := fun v251 k1_hw30 => k1_hw30

def k1_chk31 (v258 : IVec S16 32) : Prop :=
  (∀ a x, ((![v258] : Fin 1 → IVec S16 32) a x).toNat < S16.size a)
theorem k1_idx31_inb : ∀ (v258 : IVec S16 32) (k1_hw31 : k1_chk31 v258), ∀ a x, ((![v258] : Fin 1 → IVec S16 32) a x).toNat < S16.size a := fun v258 k1_hw31 => k1_hw31

def k1_chk32 (v265 : IVec S16 32) : Prop :=
  (∀ a x, ((![v265] : Fin 1 → IVec S16 32) a x).toNat < S16.size a)
theorem k1_idx32_inb : ∀ (v265 : IVec S16 32) (k1_hw32 : k1_chk32 v265), ∀ a x, ((![v265] : Fin 1 → IVec S16 32) a x).toNat < S16.size a := fun v265 k1_hw32 => k1_hw32
def k1_off13 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32 : BitVec 32 := 224#32
  let v2 : BitVec 32 := Scalar.muli v1 c224_i32
  let c2_i32_9 : BitVec 32 := 2#32
  let c0_i32_3 : BitVec 32 := 0#32
  let c1_i32 : BitVec 32 := 1#32
  let arg13 : BitVec 32 := Scf.iv c0_i32_3 c1_i32 k1_t1
  let v18 : BitVec 32 := Scalar.muli c2_i32_9 arg13
  let c0_i32_10 : BitVec 32 := 0#32
  let v19 : BitVec 32 := Scalar.addi v18 c0_i32_10
  let c2_i32_87 : BitVec 32 := 2#32
  let v272 : BitVec 32 := Scalar.addi v19 c2_i32_87
  let c27_i32 : BitVec 32 := 27#32
  let v273 : BitVec 32 := Scalar.minsi v272 c27_i32
  let c8_i32_88 : BitVec 32 := 8#32
  let v274 : BitVec 32 := Scalar.muli v273 c8_i32_88
  let v275 : BitVec 32 := Scalar.addi v2 v274
  let c0_i32_89 : BitVec 32 := 0#32
  ![v275.toNat, 0]
def k1_off14 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32 : BitVec 32 := 224#32
  let v2 : BitVec 32 := Scalar.muli v1 c224_i32
  let c0_i32_93 : BitVec 32 := 0#32
  ![v2.toNat, 0]
@[reducible] def k1_t3_loop : Scf.Loop 32 :=
  let c0_i32_103 : BitVec 32 := 0#32
  let c256_i32_104 : BitVec 32 := 256#32
  let v290 : BitVec 32 := Scalar.addi c0_i32_103 c256_i32_104
  let c1_i32_105 : BitVec 32 := 1#32
  ⟨c0_i32_103, v290, c1_i32_105⟩
def k1_off15 (k1_t3 : Fin k1_t3_loop.trips) : Fin 1 → Nat :=
  let c0_i32_103 : BitVec 32 := 0#32
  let c1_i32_105 : BitVec 32 := 1#32
  let arg15 : BitVec 32 := Scf.iv c0_i32_103 c1_i32_105 k1_t3
  let c16_i32 : BitVec 32 := 16#32
  let v538 : BitVec 32 := Scalar.muli arg15 c16_i32
  let v539 : Index := Scalar.indexCast v538
  ![v539.toNat]
def k1_off16 (k1_t3 : Fin k1_t3_loop.trips) : Fin 2 → Nat :=
  let c0_i32_177 : BitVec 32 := 0#32
  let v543 : Index := Scalar.indexCast c0_i32_177
  let c0_i32_103 : BitVec 32 := 0#32
  let c1_i32_105 : BitVec 32 := 1#32
  let arg15 : BitVec 32 := Scf.iv c0_i32_103 c1_i32_105 k1_t3
  let c16_i32_176 : BitVec 32 := 16#32
  let v542 : BitVec 32 := Scalar.muli arg15 c16_i32_176
  let v544 : Index := Scalar.indexCast v542
  ![0, v544.toNat]
def k1_off17 (k1_t3 : Fin k1_t3_loop.trips) : Fin 2 → Nat :=
  let c1_i32_179 : BitVec 32 := 1#32
  let v551 : Index := Scalar.indexCast c1_i32_179
  let c0_i32_103 : BitVec 32 := 0#32
  let c1_i32_105 : BitVec 32 := 1#32
  let arg15 : BitVec 32 := Scf.iv c0_i32_103 c1_i32_105 k1_t3
  let c16_i32_178 : BitVec 32 := 16#32
  let v550 : BitVec 32 := Scalar.muli arg15 c16_i32_178
  let v552 : Index := Scalar.indexCast v550
  ![1, v552.toNat]
def k1_off18 (k1_t3 : Fin k1_t3_loop.trips) : Fin 2 → Nat :=
  let c2_i32_181 : BitVec 32 := 2#32
  let v559 : Index := Scalar.indexCast c2_i32_181
  let c0_i32_103 : BitVec 32 := 0#32
  let c1_i32_105 : BitVec 32 := 1#32
  let arg15 : BitVec 32 := Scf.iv c0_i32_103 c1_i32_105 k1_t3
  let c16_i32_180 : BitVec 32 := 16#32
  let v558 : BitVec 32 := Scalar.muli arg15 c16_i32_180
  let v560 : Index := Scalar.indexCast v558
  ![2, v560.toNat]
def k1_off19 (k1_t3 : Fin k1_t3_loop.trips) : Fin 2 → Nat :=
  let c3_i32 : BitVec 32 := 3#32
  let v567 : Index := Scalar.indexCast c3_i32
  let c0_i32_103 : BitVec 32 := 0#32
  let c1_i32_105 : BitVec 32 := 1#32
  let arg15 : BitVec 32 := Scf.iv c0_i32_103 c1_i32_105 k1_t3
  let c16_i32_182 : BitVec 32 := 16#32
  let v566 : BitVec 32 := Scalar.muli arg15 c16_i32_182
  let v568 : Index := Scalar.indexCast v566
  ![3, v568.toNat]
def k1_off20 (k1_t3 : Fin k1_t3_loop.trips) : Fin 2 → Nat :=
  let c4_i32_184 : BitVec 32 := 4#32
  let v575 : Index := Scalar.indexCast c4_i32_184
  let c0_i32_103 : BitVec 32 := 0#32
  let c1_i32_105 : BitVec 32 := 1#32
  let arg15 : BitVec 32 := Scf.iv c0_i32_103 c1_i32_105 k1_t3
  let c16_i32_183 : BitVec 32 := 16#32
  let v574 : BitVec 32 := Scalar.muli arg15 c16_i32_183
  let v576 : Index := Scalar.indexCast v574
  ![4, v576.toNat]
def k1_off21 (k1_t3 : Fin k1_t3_loop.trips) : Fin 2 → Nat :=
  let c5_i32 : BitVec 32 := 5#32
  let v583 : Index := Scalar.indexCast c5_i32
  let c0_i32_103 : BitVec 32 := 0#32
  let c1_i32_105 : BitVec 32 := 1#32
  let arg15 : BitVec 32 := Scf.iv c0_i32_103 c1_i32_105 k1_t3
  let c16_i32_185 : BitVec 32 := 16#32
  let v582 : BitVec 32 := Scalar.muli arg15 c16_i32_185
  let v584 : Index := Scalar.indexCast v582
  ![5, v584.toNat]
def k1_off22 (k1_t3 : Fin k1_t3_loop.trips) : Fin 2 → Nat :=
  let c6_i32 : BitVec 32 := 6#32
  let v591 : Index := Scalar.indexCast c6_i32
  let c0_i32_103 : BitVec 32 := 0#32
  let c1_i32_105 : BitVec 32 := 1#32
  let arg15 : BitVec 32 := Scf.iv c0_i32_103 c1_i32_105 k1_t3
  let c16_i32_186 : BitVec 32 := 16#32
  let v590 : BitVec 32 := Scalar.muli arg15 c16_i32_186
  let v592 : Index := Scalar.indexCast v590
  ![6, v592.toNat]
def k1_off23 (k1_t3 : Fin k1_t3_loop.trips) : Fin 2 → Nat :=
  let c7_i32 : BitVec 32 := 7#32
  let v599 : Index := Scalar.indexCast c7_i32
  let c0_i32_103 : BitVec 32 := 0#32
  let c1_i32_105 : BitVec 32 := 1#32
  let arg15 : BitVec 32 := Scf.iv c0_i32_103 c1_i32_105 k1_t3
  let c16_i32_187 : BitVec 32 := 16#32
  let v598 : BitVec 32 := Scalar.muli arg15 c16_i32_187
  let v600 : Index := Scalar.indexCast v598
  ![7, v600.toNat]

def k1_chk33 (v294 : IVec S16 32) : Prop :=
  (∀ a x, ((![v294] : Fin 1 → IVec S16 32) a x).toNat < S16.size a)
theorem k1_idx33_inb : ∀ (v294 : IVec S16 32) (k1_hw33 : k1_chk33 v294), ∀ a x, ((![v294] : Fin 1 → IVec S16 32) a x).toNat < S16.size a := fun v294 k1_hw33 => k1_hw33

def k1_chk34 (v301 : IVec S16 32) : Prop :=
  (∀ a x, ((![v301] : Fin 1 → IVec S16 32) a x).toNat < S16.size a)
theorem k1_idx34_inb : ∀ (v301 : IVec S16 32) (k1_hw34 : k1_chk34 v301), ∀ a x, ((![v301] : Fin 1 → IVec S16 32) a x).toNat < S16.size a := fun v301 k1_hw34 => k1_hw34

def k1_chk35 (v308 : IVec S16 32) : Prop :=
  (∀ a x, ((![v308] : Fin 1 → IVec S16 32) a x).toNat < S16.size a)
theorem k1_idx35_inb : ∀ (v308 : IVec S16 32) (k1_hw35 : k1_chk35 v308), ∀ a x, ((![v308] : Fin 1 → IVec S16 32) a x).toNat < S16.size a := fun v308 k1_hw35 => k1_hw35

def k1_chk36 (v315 : IVec S16 32) : Prop :=
  (∀ a x, ((![v315] : Fin 1 → IVec S16 32) a x).toNat < S16.size a)
theorem k1_idx36_inb : ∀ (v315 : IVec S16 32) (k1_hw36 : k1_chk36 v315), ∀ a x, ((![v315] : Fin 1 → IVec S16 32) a x).toNat < S16.size a := fun v315 k1_hw36 => k1_hw36

def k1_chk37 (v324 : IVec S16 32) : Prop :=
  (∀ a x, ((![v324] : Fin 1 → IVec S16 32) a x).toNat < S16.size a)
theorem k1_idx37_inb : ∀ (v324 : IVec S16 32) (k1_hw37 : k1_chk37 v324), ∀ a x, ((![v324] : Fin 1 → IVec S16 32) a x).toNat < S16.size a := fun v324 k1_hw37 => k1_hw37

def k1_chk38 (v331 : IVec S16 32) : Prop :=
  (∀ a x, ((![v331] : Fin 1 → IVec S16 32) a x).toNat < S16.size a)
theorem k1_idx38_inb : ∀ (v331 : IVec S16 32) (k1_hw38 : k1_chk38 v331), ∀ a x, ((![v331] : Fin 1 → IVec S16 32) a x).toNat < S16.size a := fun v331 k1_hw38 => k1_hw38

def k1_chk39 (v338 : IVec S16 32) : Prop :=
  (∀ a x, ((![v338] : Fin 1 → IVec S16 32) a x).toNat < S16.size a)
theorem k1_idx39_inb : ∀ (v338 : IVec S16 32) (k1_hw39 : k1_chk39 v338), ∀ a x, ((![v338] : Fin 1 → IVec S16 32) a x).toNat < S16.size a := fun v338 k1_hw39 => k1_hw39

def k1_chk40 (v345 : IVec S16 32) : Prop :=
  (∀ a x, ((![v345] : Fin 1 → IVec S16 32) a x).toNat < S16.size a)
theorem k1_idx40_inb : ∀ (v345 : IVec S16 32) (k1_hw40 : k1_chk40 v345), ∀ a x, ((![v345] : Fin 1 → IVec S16 32) a x).toNat < S16.size a := fun v345 k1_hw40 => k1_hw40

def k1_chk41 (v354 : IVec S16 32) : Prop :=
  (∀ a x, ((![v354] : Fin 1 → IVec S16 32) a x).toNat < S16.size a)
theorem k1_idx41_inb : ∀ (v354 : IVec S16 32) (k1_hw41 : k1_chk41 v354), ∀ a x, ((![v354] : Fin 1 → IVec S16 32) a x).toNat < S16.size a := fun v354 k1_hw41 => k1_hw41

def k1_chk42 (v361 : IVec S16 32) : Prop :=
  (∀ a x, ((![v361] : Fin 1 → IVec S16 32) a x).toNat < S16.size a)
theorem k1_idx42_inb : ∀ (v361 : IVec S16 32) (k1_hw42 : k1_chk42 v361), ∀ a x, ((![v361] : Fin 1 → IVec S16 32) a x).toNat < S16.size a := fun v361 k1_hw42 => k1_hw42

def k1_chk43 (v368 : IVec S16 32) : Prop :=
  (∀ a x, ((![v368] : Fin 1 → IVec S16 32) a x).toNat < S16.size a)
theorem k1_idx43_inb : ∀ (v368 : IVec S16 32) (k1_hw43 : k1_chk43 v368), ∀ a x, ((![v368] : Fin 1 → IVec S16 32) a x).toNat < S16.size a := fun v368 k1_hw43 => k1_hw43

def k1_chk44 (v375 : IVec S16 32) : Prop :=
  (∀ a x, ((![v375] : Fin 1 → IVec S16 32) a x).toNat < S16.size a)
theorem k1_idx44_inb : ∀ (v375 : IVec S16 32) (k1_hw44 : k1_chk44 v375), ∀ a x, ((![v375] : Fin 1 → IVec S16 32) a x).toNat < S16.size a := fun v375 k1_hw44 => k1_hw44

def k1_chk45 (v384 : IVec S16 32) : Prop :=
  (∀ a x, ((![v384] : Fin 1 → IVec S16 32) a x).toNat < S16.size a)
theorem k1_idx45_inb : ∀ (v384 : IVec S16 32) (k1_hw45 : k1_chk45 v384), ∀ a x, ((![v384] : Fin 1 → IVec S16 32) a x).toNat < S16.size a := fun v384 k1_hw45 => k1_hw45

def k1_chk46 (v391 : IVec S16 32) : Prop :=
  (∀ a x, ((![v391] : Fin 1 → IVec S16 32) a x).toNat < S16.size a)
theorem k1_idx46_inb : ∀ (v391 : IVec S16 32) (k1_hw46 : k1_chk46 v391), ∀ a x, ((![v391] : Fin 1 → IVec S16 32) a x).toNat < S16.size a := fun v391 k1_hw46 => k1_hw46

def k1_chk47 (v398 : IVec S16 32) : Prop :=
  (∀ a x, ((![v398] : Fin 1 → IVec S16 32) a x).toNat < S16.size a)
theorem k1_idx47_inb : ∀ (v398 : IVec S16 32) (k1_hw47 : k1_chk47 v398), ∀ a x, ((![v398] : Fin 1 → IVec S16 32) a x).toNat < S16.size a := fun v398 k1_hw47 => k1_hw47

def k1_chk48 (v405 : IVec S16 32) : Prop :=
  (∀ a x, ((![v405] : Fin 1 → IVec S16 32) a x).toNat < S16.size a)
theorem k1_idx48_inb : ∀ (v405 : IVec S16 32) (k1_hw48 : k1_chk48 v405), ∀ a x, ((![v405] : Fin 1 → IVec S16 32) a x).toNat < S16.size a := fun v405 k1_hw48 => k1_hw48

def k1_chk49 (v414 : IVec S16 32) : Prop :=
  (∀ a x, ((![v414] : Fin 1 → IVec S16 32) a x).toNat < S16.size a)
theorem k1_idx49_inb : ∀ (v414 : IVec S16 32) (k1_hw49 : k1_chk49 v414), ∀ a x, ((![v414] : Fin 1 → IVec S16 32) a x).toNat < S16.size a := fun v414 k1_hw49 => k1_hw49

def k1_chk50 (v421 : IVec S16 32) : Prop :=
  (∀ a x, ((![v421] : Fin 1 → IVec S16 32) a x).toNat < S16.size a)
theorem k1_idx50_inb : ∀ (v421 : IVec S16 32) (k1_hw50 : k1_chk50 v421), ∀ a x, ((![v421] : Fin 1 → IVec S16 32) a x).toNat < S16.size a := fun v421 k1_hw50 => k1_hw50

def k1_chk51 (v428 : IVec S16 32) : Prop :=
  (∀ a x, ((![v428] : Fin 1 → IVec S16 32) a x).toNat < S16.size a)
theorem k1_idx51_inb : ∀ (v428 : IVec S16 32) (k1_hw51 : k1_chk51 v428), ∀ a x, ((![v428] : Fin 1 → IVec S16 32) a x).toNat < S16.size a := fun v428 k1_hw51 => k1_hw51

def k1_chk52 (v435 : IVec S16 32) : Prop :=
  (∀ a x, ((![v435] : Fin 1 → IVec S16 32) a x).toNat < S16.size a)
theorem k1_idx52_inb : ∀ (v435 : IVec S16 32) (k1_hw52 : k1_chk52 v435), ∀ a x, ((![v435] : Fin 1 → IVec S16 32) a x).toNat < S16.size a := fun v435 k1_hw52 => k1_hw52

def k1_chk53 (v444 : IVec S16 32) : Prop :=
  (∀ a x, ((![v444] : Fin 1 → IVec S16 32) a x).toNat < S16.size a)
theorem k1_idx53_inb : ∀ (v444 : IVec S16 32) (k1_hw53 : k1_chk53 v444), ∀ a x, ((![v444] : Fin 1 → IVec S16 32) a x).toNat < S16.size a := fun v444 k1_hw53 => k1_hw53

def k1_chk54 (v451 : IVec S16 32) : Prop :=
  (∀ a x, ((![v451] : Fin 1 → IVec S16 32) a x).toNat < S16.size a)
theorem k1_idx54_inb : ∀ (v451 : IVec S16 32) (k1_hw54 : k1_chk54 v451), ∀ a x, ((![v451] : Fin 1 → IVec S16 32) a x).toNat < S16.size a := fun v451 k1_hw54 => k1_hw54

def k1_chk55 (v458 : IVec S16 32) : Prop :=
  (∀ a x, ((![v458] : Fin 1 → IVec S16 32) a x).toNat < S16.size a)
theorem k1_idx55_inb : ∀ (v458 : IVec S16 32) (k1_hw55 : k1_chk55 v458), ∀ a x, ((![v458] : Fin 1 → IVec S16 32) a x).toNat < S16.size a := fun v458 k1_hw55 => k1_hw55

def k1_chk56 (v465 : IVec S16 32) : Prop :=
  (∀ a x, ((![v465] : Fin 1 → IVec S16 32) a x).toNat < S16.size a)
theorem k1_idx56_inb : ∀ (v465 : IVec S16 32) (k1_hw56 : k1_chk56 v465), ∀ a x, ((![v465] : Fin 1 → IVec S16 32) a x).toNat < S16.size a := fun v465 k1_hw56 => k1_hw56

def k1_chk57 (v474 : IVec S16 32) : Prop :=
  (∀ a x, ((![v474] : Fin 1 → IVec S16 32) a x).toNat < S16.size a)
theorem k1_idx57_inb : ∀ (v474 : IVec S16 32) (k1_hw57 : k1_chk57 v474), ∀ a x, ((![v474] : Fin 1 → IVec S16 32) a x).toNat < S16.size a := fun v474 k1_hw57 => k1_hw57

def k1_chk58 (v481 : IVec S16 32) : Prop :=
  (∀ a x, ((![v481] : Fin 1 → IVec S16 32) a x).toNat < S16.size a)
theorem k1_idx58_inb : ∀ (v481 : IVec S16 32) (k1_hw58 : k1_chk58 v481), ∀ a x, ((![v481] : Fin 1 → IVec S16 32) a x).toNat < S16.size a := fun v481 k1_hw58 => k1_hw58

def k1_chk59 (v488 : IVec S16 32) : Prop :=
  (∀ a x, ((![v488] : Fin 1 → IVec S16 32) a x).toNat < S16.size a)
theorem k1_idx59_inb : ∀ (v488 : IVec S16 32) (k1_hw59 : k1_chk59 v488), ∀ a x, ((![v488] : Fin 1 → IVec S16 32) a x).toNat < S16.size a := fun v488 k1_hw59 => k1_hw59

def k1_chk60 (v495 : IVec S16 32) : Prop :=
  (∀ a x, ((![v495] : Fin 1 → IVec S16 32) a x).toNat < S16.size a)
theorem k1_idx60_inb : ∀ (v495 : IVec S16 32) (k1_hw60 : k1_chk60 v495), ∀ a x, ((![v495] : Fin 1 → IVec S16 32) a x).toNat < S16.size a := fun v495 k1_hw60 => k1_hw60

def k1_chk61 (v504 : IVec S16 32) : Prop :=
  (∀ a x, ((![v504] : Fin 1 → IVec S16 32) a x).toNat < S16.size a)
theorem k1_idx61_inb : ∀ (v504 : IVec S16 32) (k1_hw61 : k1_chk61 v504), ∀ a x, ((![v504] : Fin 1 → IVec S16 32) a x).toNat < S16.size a := fun v504 k1_hw61 => k1_hw61

def k1_chk62 (v511 : IVec S16 32) : Prop :=
  (∀ a x, ((![v511] : Fin 1 → IVec S16 32) a x).toNat < S16.size a)
theorem k1_idx62_inb : ∀ (v511 : IVec S16 32) (k1_hw62 : k1_chk62 v511), ∀ a x, ((![v511] : Fin 1 → IVec S16 32) a x).toNat < S16.size a := fun v511 k1_hw62 => k1_hw62

def k1_chk63 (v518 : IVec S16 32) : Prop :=
  (∀ a x, ((![v518] : Fin 1 → IVec S16 32) a x).toNat < S16.size a)
theorem k1_idx63_inb : ∀ (v518 : IVec S16 32) (k1_hw63 : k1_chk63 v518), ∀ a x, ((![v518] : Fin 1 → IVec S16 32) a x).toNat < S16.size a := fun v518 k1_hw63 => k1_hw63

def k1_chk64 (v525 : IVec S16 32) : Prop :=
  (∀ a x, ((![v525] : Fin 1 → IVec S16 32) a x).toNat < S16.size a)
theorem k1_idx64_inb : ∀ (v525 : IVec S16 32) (k1_hw64 : k1_chk64 v525), ∀ a x, ((![v525] : Fin 1 → IVec S16 32) a x).toNat < S16.size a := fun v525 k1_hw64 => k1_hw64
def k1_off24 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32 : BitVec 32 := 224#32
  let v2 : BitVec 32 := Scalar.muli v1 c224_i32
  let c2_i32_91 : BitVec 32 := 2#32
  let c0_i32_3 : BitVec 32 := 0#32
  let c1_i32 : BitVec 32 := 1#32
  let arg13 : BitVec 32 := Scf.iv c0_i32_3 c1_i32 k1_t1
  let v278 : BitVec 32 := Scalar.muli c2_i32_91 arg13
  let c1_i32_92 : BitVec 32 := 1#32
  let v279 : BitVec 32 := Scalar.addi v278 c1_i32_92
  let c2_i32_171 : BitVec 32 := 2#32
  let v532 : BitVec 32 := Scalar.addi v279 c2_i32_171
  let c27_i32_172 : BitVec 32 := 27#32
  let v533 : BitVec 32 := Scalar.minsi v532 c27_i32_172
  let c8_i32_173 : BitVec 32 := 8#32
  let v534 : BitVec 32 := Scalar.muli v533 c8_i32_173
  let v535 : BitVec 32 := Scalar.addi v2 v534
  let c0_i32_174 : BitVec 32 := 0#32
  ![v535.toNat, 0]
def k1_off25 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9_r0 : BitVec 32 := 0#32
  ![v1.toNat, 0]
abbrev grid2 : Pipeline.Grid := ⟨1, ![18], ![false]⟩

def k2_cond3 (i : grid2.Coords) : BitVec 1 :=
  let arg0 : BitVec 32 := BitVec.ofNat 32 (i 0).val
  let c17_i32 : BitVec 32 := 17#32
  let v18 : BitVec 1 := Scalar.cmpi .eq arg0 c17_i32
  let v19 : BitVec 32 := Scalar.extui v18
  let c0_i32_8 : BitVec 32 := 0#32
  let v20 : BitVec 1 := Scalar.cmpi .ne v19 c0_i32_8
  v20

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c14_i32 : BitVec 32 := 14#32
  let v0 : BitVec 32 := Scalar.addi c14_i32 arg0
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x2048 : Shape := ⟨2, ![1, 2048]⟩
abbrev S2048x4096 : Shape := ⟨2, ![2048, 4096]⟩
abbrev S4096 : Shape := ⟨1, ![4096]⟩
abbrev S16384x4096 : Shape := ⟨2, ![16384, 4096]⟩
abbrev S16384x2048 : Shape := ⟨2, ![16384, 2048]⟩
abbrev S_ : Shape := ⟨0, ![]⟩
abbrev S2048 : Shape := ⟨1, ![2048]⟩
abbrev S1x4096 : Shape := ⟨2, ![1, 4096]⟩
abbrev S16384 : Shape := ⟨1, ![16384]⟩

abbrev nBuf : Space → Nat
  | .hbm => 58
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S2048x4096, .f32⟩
  | .hbm, ⟨2, _⟩ => ⟨S4096, .f32⟩
  | .hbm, ⟨3, _⟩ => ⟨S16384x4096, .f32⟩
  | .hbm, ⟨4, _⟩ => ⟨S16384x2048, .f32⟩
  | .hbm, ⟨5, _⟩ => ⟨S_, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S_, .i32⟩
  | .hbm, ⟨11, _⟩ => ⟨S_, .f32⟩
  | .hbm, ⟨12, _⟩ => ⟨S2048, .f32⟩
  | .hbm, ⟨13, _⟩ => ⟨S1x2048, .f32⟩
  | .hbm, ⟨14, _⟩ => ⟨S_, .f32⟩
  | .hbm, ⟨15, _⟩ => ⟨S1x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048, .f32⟩
  | .hbm, ⟨34, _⟩ => ⟨S1x2048, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S_, .f32⟩
  | .hbm, ⟨39, _⟩ => ⟨S2048, .f32⟩
  | .hbm, ⟨40, _⟩ => ⟨S2048, .i1⟩
  | .hbm, ⟨41, _⟩ => ⟨S_, .f32⟩
  | .hbm, ⟨42, _⟩ => ⟨S1x2048, .f32⟩
  | .hbm, ⟨43, _⟩ => ⟨S1x2048, .i1⟩
  | .hbm, ⟨44, _⟩ => ⟨S1x2048, .f32⟩
  | .hbm, ⟨45, _⟩ => ⟨S1x4096, .f32⟩
  | .hbm, ⟨46, _⟩ => ⟨S1x4096, .f32⟩
  | .hbm, ⟨47, _⟩ => ⟨S1x4096, .f32⟩
  | .hbm, ⟨48, _⟩ => ⟨S1x4096, .f32⟩
  | .hbm, ⟨49, _⟩ => ⟨S4096, .f32⟩
  | .hbm, ⟨50, _⟩ => ⟨S1x4096, .f32⟩
  | .hbm, ⟨51, _⟩ => ⟨S16384x4096, .f32⟩
  | .hbm, ⟨52, _⟩ => ⟨S16384x4096, .f32⟩
  | .hbm, ⟨53, _⟩ => ⟨S16384x4096, .f32⟩
  | .hbm, ⟨54, _⟩ => ⟨S_, .f32⟩
  | .hbm, ⟨55, _⟩ => ⟨S16384, .f32⟩
  | .hbm, ⟨56, _⟩ => ⟨S_, .f32⟩
  | .hbm, ⟨57, _⟩ => ⟨S_, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_cst_0 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_cst_1 : Ref sig .tc := ⟨.hbm, 21, rfl⟩
abbrev main_call0_call0_v8 : Ref sig .tc := ⟨.hbm, 22, rfl⟩
abbrev main_call0_call0_cst_2 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_call0_cst_3 : Ref sig .tc := ⟨.hbm, 27, rfl⟩
abbrev main_call0_call0_v12 : Ref sig .tc := ⟨.hbm, 28, rfl⟩
abbrev main_call0_call0_cst_4 : Ref sig .tc := ⟨.hbm, 29, rfl⟩
abbrev main_call0_call0_call0_v0 : Ref sig .tc := ⟨.hbm, 30, rfl⟩
abbrev main_call0_call0_call0_v1 : Ref sig .tc := ⟨.hbm, 31, rfl⟩
abbrev main_call0_v0 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst_1 : Ref sig .tc := ⟨.hbm, 38, rfl⟩
abbrev main_v8 : Ref sig .tc := ⟨.hbm, 39, rfl⟩
abbrev main_v9 : Ref sig .tc := ⟨.hbm, 40, rfl⟩
abbrev main_cst_2 : Ref sig .tc := ⟨.hbm, 41, rfl⟩
abbrev main_v10 : Ref sig .tc := ⟨.hbm, 42, rfl⟩
abbrev main_call1_v0 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_3 : Ref sig .tc := ⟨.hbm, 54, rfl⟩
abbrev main_v21 : Ref sig .tc := ⟨.hbm, 55, rfl⟩
abbrev main_cst_4 : Ref sig .tc := ⟨.hbm, 56, rfl⟩
abbrev main_v22 : Ref sig .tc := ⟨.hbm, 57, rfl⟩

abbrev nD : Nat := 1
abbrev τ : Topo := Topo.v7x

variable {F : FTy → Type} [FloatOps F]
-- ==== Proof.Setup.lean ====
/-
  What every module of the proof shares: the program as the launch theorem sees it, the resource algebra, and the
  values one vector subcore computes, as plain functions of the arrays it reads.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pointwise.Index
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP [FloatOps F] : Labels := Pipeline.Sig Λ₀ (Fin 2) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are pairwise apart and unscoped, and no task buffer is shared. -/
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' component of the algebra. -/
def EH : Emb UH (MT nD τ sig (HIx 1) (Elt F) ℕ UU ℕ) :=
  (Emb.inl : Emb UH UU).trans (uEmb (nD := nD) (τ := τ) (sig := sig) (Ix := HIx 1) (Val := Elt F) (Name := ℕ) (U := UU) (Lvl := ℕ)).toEmb
instance : (EH (F := F)).LandsIn (upEmb : UEmb _ 𝕄) := by unfold EH; infer_instance

/-- The pipelines' component of the algebra. -/
def EP : Emb UP (MT nD τ sig (HIx 1) (Elt F) ℕ UU ℕ) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb
instance : (EP (F := F)).LandsIn (upEmb : UEmb _ 𝕄) := by unfold EP; infer_instance

/-! ## What one vector subcore computes -/

variable [FloatOps F]

/-- Sixteen words of the encoding, from word `16 t`. -/
def ldE (E : Vec F S4096 .f32) (t : ℕ) : Vec F S16 .f32 :=
  fun j => E (ix1 ⟨(16 * t + (j 0).val) % 4096, Nat.mod_lt _ (by decide)⟩)

/-- Sixteen words of row `r` of a chunk, from word `16 t`. -/
def ldRow (B : Vec F S8x4096 .f32) (r : Fin 8) (t : ℕ) : Vec F S1x16 .f32 :=
  fun j => B (ix2 r ⟨(16 * t + (j 1).val) % 4096, Nat.mod_lt _ (by decide)⟩)

/-- One step of a row's accumulation: the sixteen absolute differences added on. -/
def stepF (acc : FVec F S16 .f32) (e : Vec F S16 .f32) (row : Vec F S1x16 .f32) : FVec F S16 .f32 :=
  k1_pay12 acc e row

/-- The sixteen partial sums of row `r` after `t` steps. -/
def accN (B : Vec F S8x4096 .f32) (E : Vec F S4096 .f32) (r : Fin 8) : ℕ → FVec F S16 .f32
  | 0 => k1_pay23
  | t + 1 => stepF (accN B E r t) (ldE E t) (ldRow B r t)

/-- The eight rows' partial sums after `t` steps. -/
def accs (B : Vec F S8x4096 .f32) (E : Vec F S4096 .f32) (t : ℕ) :
    FVec F S16 .f32 × FVec F S16 .f32 × FVec F S16 .f32 × FVec F S16 .f32 × FVec F S16 .f32 × FVec F S16 .f32 × FVec F S16 .f32 × FVec F S16 .f32 :=
  (accN B E 0 t, accN B E 1 t, accN B E 2 t, accN B E 3 t, accN B E 4 t, accN B E 5 t, accN B E 6 t, accN B E 7 t)

/-- The lanes of `v` read at lane `j xor k`. -/
def lx (k : Fin 16) (v : FVec F S16 .f32) : FVec F S16 .f32 :=
  fun j => v (ix1 ⟨((j 0).val ^^^ k.val) % 16, Nat.mod_lt _ (by decide)⟩)

/-- The four steps that leave the sum of all lanes in every lane. -/
def lsum (v : FVec F S16 .f32) : FVec F S16 .f32 :=
  let v := addf v (lx 8 (shapeCast S16 v shapeCasts_S16_S16))
  let v := addf v (lx 4 (shapeCast S16 v shapeCasts_S16_S16))
  let v := addf v (lx 2 (shapeCast S16 v shapeCasts_S16_S16))
  addf v (lx 1 (shapeCast S16 v shapeCasts_S16_S16))

/-- The running minimum after row `r` of a chunk. -/
def rowMin (B : Vec F S8x4096 .f32) (E : Vec F S4096 .f32) (mn : FVec F S16 .f32) (r : Fin 8) : FVec F S16 .f32 :=
  minimumf mn (lsum (accN B E r 256))

/-- The running minimum after a chunk. -/
def chunkMin (B : Vec F S8x4096 .f32) (E : Vec F S4096 .f32) (mn : FVec F S16 .f32) : FVec F S16 .f32 :=
  rowMin B E (rowMin B E (rowMin B E (rowMin B E (rowMin B E (rowMin B E (rowMin B E (rowMin B E mn 0) 1) 2) 3) 4) 5) 6) 7

/-- Eight rows of the table, from row `o`. -/
def chunk (M : Vec F S16384x4096 .f32) (o : ℕ) : Vec F S8x4096 .f32 :=
  fun j => M (ix2 ⟨(o + (j 0).val) % 16384, Nat.mod_lt _ (by decide)⟩ (j 1))

/-- The running minimum of the subcore whose rows start at `o`, after `c` trips of two chunks each. -/
def tripMin (M : Vec F S16384x4096 .f32) (E : Vec F S4096 .f32) (o : ℕ) : ℕ → FVec F S16 .f32
  | 0 => k1_pay1
  | c + 1 => chunkMin (chunk M (o + 8 * (2 * c + 1))) E (chunkMin (chunk M (o + 8 * (2 * c))) E (tripMin M E o c))

end Cert.Proof.Sc
-- ==== Proof.Own.lean ====
/-
  Loads and stores of a TensorCore body, stated over what its memrefs hold: a load of a memref owned at `X` reads `X`
  through the load's rectangle, and a store over the whole memref leaves it owned at what was stored.
-/
module

public import proofs.«01_k».proof.Proof.Setup
public import Idealize.ShloMosaic.Lib.VecWindow
public import Idealize.ShloMosaic.Lib.Pipeline.Value

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The waits a TensorCore may have recorded before SparseCore call `n`: those at that call's level or below. -/
def below (c : Dev nD) (n : ℕ) : Set (SemLoc sig × HIx 1) := {p | (K (F := F)).lev (T c, p.1) p.2 ≤ 8 * n}

variable (d : Dev nD) {sp : CoreSpace} {s : Shape} {e : EltTy} {α : Type}

/-- A load of a memref owned at `X` continues at `X` read through the load's rectangle, the memref still owned at `X`. -/
theorem owns_load (m : Memref sig .tc sp s e) (r : Rect s) {hl : m.view.LoadsAt r.toLoadRect}
    {k : (r.toLoadRect.shape.Idx → Elt F e) → Prog (TpuEff nD τ sig (Elt F) Λ₀ .tc) α} (X : s.Idx → Elt F e) (Q : α → sProp 𝕄) :
    (owns (T d) m fullShare X : sProp 𝕄)
      ⊢ iprop((owns (T d) m fullShare X -∗ wp frame (wpE (defs₀ (F := F)) 𝒱₀ (T d) none) Set.univ (k (View.ld X r)) Q)
        -∗ wp frame (wpE (defs₀ (F := F)) 𝒱₀ (T d) none) Set.univ (.op (.load m r.toLoadRect hl) k) Q) := by
  unfold owns
  iintro ⟨%f, %hf, H⟩ Hk
  subst hf
  iapply (wp_load 𝒱₀ (T d) none Set.univ (m := m) (r := r.toLoadRect) (hl := hl) (k := k) (q := fullShare) (f := f)
    (S := m.view.set) (View.setOn_subset_set _ _)) $$ H
  iintro H
  iapply Hk
  iexists f
  isplitr; · ipureintro; rfl
  iexact H

/-- A load over a whole memref owned at `X` continues at `X`. -/
theorem owns_load_whole (m : Memref sig .tc sp s e) {off : Fin s.rank → ℕ} (h : off = fun _ => 0) (inb : ∀ a, off a + s.size a ≤ s.size a)
    {hl : m.view.LoadsAt (Rect.unit off s.size inb).toLoadRect}
    {k : ((Rect.unit off s.size inb).toLoadRect.shape.Idx → Elt F e) → Prog (TpuEff nD τ sig (Elt F) Λ₀ .tc) α} (X : s.Idx → Elt F e) (Q : α → sProp 𝕄) :
    (owns (T d) m fullShare X : sProp 𝕄)
      ⊢ iprop((owns (T d) m fullShare X -∗ wp frame (wpE (defs₀ (F := F)) 𝒱₀ (T d) none) Set.univ (k X) Q)
        -∗ wp frame (wpE (defs₀ (F := F)) 𝒱₀ (T d) none) Set.univ (.op (.load m (Rect.unit off s.size inb).toLoadRect hl) k) Q) := by
  have hX : View.ld X (Rect.unit off s.size inb) = X := View.ld_unit_zero h inb X
  have H := owns_load d m (Rect.unit off s.size inb) (hl := hl) (k := k) X Q
  rw [hX] at H
  exact H

/-- A store over a whole memref leaves it owned at what was stored. -/
theorem owns_store_whole (m : Memref sig .tc sp s e) {off : Fin s.rank → ℕ} (inb : ∀ a, off a + s.size a ≤ s.size a)
    {w : (Rect.unit off s.size inb).shape.Idx → Elt F e} {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ₀ .tc) α} (X : s.Idx → Elt F e) (Q : α → sProp 𝕄) :
    (owns (T d) m fullShare X : sProp 𝕄)
      ⊢ iprop((owns (T d) m fullShare w -∗ wp frame (wpE (defs₀ (F := F)) 𝒱₀ (T d) none) Set.univ (k ⟨⟩) Q)
        -∗ wp frame (wpE (defs₀ (F := F)) 𝒱₀ (T d) none) Set.univ (.op (.store m (Rect.unit off s.size inb) w Finset.univ hx hm) k) Q) := by
  unfold owns
  iintro ⟨%f, -, H⟩ Hk
  iapply (wp_store 𝒱₀ (T d) none Set.univ (m := m) (r := Rect.unit off s.size inb) (w := w) (Mk := Finset.univ) (hx := hx) (hm := hm)
    (k := k) (f := f) (S := m.view.set)
    ((View.setOn_subset_set _ _).trans (show ((m.view.slice (Rect.unit off s.size inb))).set ⊆ m.view.set from by
      rw [View.set_slice]; exact View.setOn_subset_set _ _))) $$ H
  iintro H
  iapply Hk
  iexists _
  isplitr
  swap; · iexact H
  ipureintro
  exact View.read_writes_full m.view f inb w []

/-- A load of one word of scalar memory continues at the word. -/
theorem owns_word_load (m : Memref sig .tc .smem s e) (r : Rect s) (h1 : r.shape.numel = 1) (hp : e.packing = 1)
    {k : Elt F e → Prog (TpuEff nD τ sig (Elt F) Λ₀ .tc) α} (x : Elt F e) (Q : α → sProp 𝕄) :
    (owns (T d) m fullShare (fun _ => x) : sProp 𝕄)
      ⊢ iprop((owns (T d) m fullShare (fun _ => x) -∗ wp frame (wpE (defs₀ (F := F)) 𝒱₀ (T d) none) Set.univ (k x) Q)
        -∗ wp frame (wpE (defs₀ (F := F)) 𝒱₀ (T d) none) Set.univ
          (.op (.load m r.toLoadRect (View.loadsAt_rect (View.loads_smem_one hp h1))) fun f => k (f (Shape.Idx.first (h1.symm ▸ Nat.one_pos)))) Q) :=
  owns_load d m r (k := fun f => k (f (Shape.Idx.first (h1.symm ▸ Nat.one_pos)))) (fun _ => x) Q

end Cert.Proof.Sc

end
-- ==== Proof.EncodeBody.lean ====
/-
  The encoder's body at one grid point, run over whole memrefs: in the first sixteen points it sums a block of the
  table's columns and of their squares, at the sixteenth it also normalises the input, and in the last four it
  multiplies the input by a block of the weights, the last one writing the encoding.
-/
module

public import proofs.«01_k».proof.Proof.Own
public import proofs.«01_k».proof.Proof.Gen.KernelIdeal.Skeleton
public import proofs.«01_k».proof.Proof.Gen.KernelIdeal.Points

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem zero2 : (![0, 0] : Fin 2 → ℕ) = fun _ => 0 := funext fun a => by fin_cases a <;> rfl

/-! ## The body's conditions, on the point's number -/

/-- The number of the grid point, as the body holds it. -/
abbrev pt0 (i : grid0.Coords) : BitVec 32 := BitVec.ofNat 32 (i 0).val

/-- A bit compared as the body compares it. -/
abbrev bit (b : BitVec 1) : Prop := Scalar.cmpi .ne (Scalar.extui b : BitVec 32) 0#32 = 1#1

theorem bit_lt (i : grid0.Coords) : bit (Scalar.cmpi .slt (pt0 i) 16#32) ↔ (i 0).val < 16 :=
  (by decide : ∀ n : Fin 20, bit (Scalar.cmpi .slt (BitVec.ofNat 32 n.val) 16#32) ↔ n.val < 16) (i 0)

theorem bit_zero (i : grid0.Coords) : bit (Scalar.cmpi .eq (pt0 i) 0#32) ↔ (i 0).val = 0 :=
  (by decide : ∀ n : Fin 20, bit (Scalar.cmpi .eq (BitVec.ofNat 32 n.val) 0#32) ↔ n.val = 0) (i 0)

theorem bit_pos (i : grid0.Coords) : bit (Scalar.cmpi .sgt (pt0 i) 0#32) ↔ 0 < (i 0).val :=
  (by decide : ∀ n : Fin 20, bit (Scalar.cmpi .sgt (BitVec.ofNat 32 n.val) 0#32) ↔ 0 < n.val) (i 0)

theorem bit_last (i : grid0.Coords) : bit (Scalar.cmpi .eq (pt0 i) 15#32) ↔ (i 0).val = 15 :=
  (by decide : ∀ n : Fin 20, bit (Scalar.cmpi .eq (BitVec.ofNat 32 n.val) 15#32) ↔ n.val = 15) (i 0)

theorem bit_ge (i : grid0.Coords) : k0_cond5 i = 1#1 ↔ 16 ≤ (i 0).val :=
  (by decide : ∀ n : Fin 20, bit (Scalar.cmpi .sge (BitVec.ofNat 32 n.val) 16#32) ↔ 16 ≤ n.val) (i 0)

theorem bit_first (i : grid0.Coords) : bit (Scalar.cmpi .eq (Scalar.subi (pt0 i) 16#32) 0#32) ↔ (i 0).val = 16 :=
  (by decide : ∀ n : Fin 20, bit (Scalar.cmpi .eq (Scalar.subi (BitVec.ofNat 32 n.val) 16#32) 0#32) ↔ n.val = 16) (i 0)

theorem bit_after (i : grid0.Coords) : bit (Scalar.cmpi .sgt (Scalar.subi (pt0 i) 16#32) 0#32) ↔ 16 < (i 0).val :=
  (by decide : ∀ n : Fin 20, bit (Scalar.cmpi .sgt (Scalar.subi (BitVec.ofNat 32 n.val) 16#32) 0#32) ↔ 16 < n.val) (i 0)

theorem bit_end (i : grid0.Coords) : k0_cond8 i = 1#1 ↔ (i 0).val = 19 :=
  (by decide : ∀ n : Fin 20, bit (Scalar.cmpi .eq (Scalar.subi (BitVec.ofNat 32 n.val) 16#32) 3#32) ↔ n.val = 19) (i 0)

/-! ## The body -/

section Body

variable (d : Dev nD) (i : grid0.Coords)
  (a1 : Memref sig .tc .vmem S1x2048 .f32) (h1 : a1.IsWhole) (a2 : Memref sig .tc .vmem S1024x2048 .f32) (h2 : a2.IsWhole)
  (a3 : Memref sig .tc .vmem S512x4096 .f32) (h3 : a3.IsWhole) (a4 : Memref sig .tc .vmem S1x4096 .f32) (h4 : a4.IsWhole)
  (a5 : Memref sig .tc .vmem S1x4096 .f32) (h5 : a5.IsWhole) (a6 : Memref sig .tc .vmem S1x2048 .f32) (h6 : a6.IsWhole)
  (a7 : Memref sig .tc .vmem S1x2048 .f32) (h7 : a7.IsWhole) (a8 : Memref sig .tc .vmem S2048x1 .f32) (h8 : a8.IsWhole)
  (a9 : Memref sig .tc .vmem S1x4096 .f32) (h9 : a9.IsWhole)

/-- The memref owned whole at `X`. -/
abbrev own {sp : CoreSpace} {s : Shape} {e : EltTy} (m : Memref sig .tc sp s e) (X : s.Idx → Elt F e) : sProp 𝕄 := owns (T d) m fullShare X

/-- The body's weakest precondition at this point. -/
abbrev wpEnc (Q : PUnit → sProp 𝕄) : sProp 𝕄 :=
  wp frame (wpE (defs₀ (F := F)) 𝒱₀ (T d) none) Set.univ (cc0__encode_body i a1 h1 a2 h2 a3 h3 a4 h4 a5 h5 a6 h6 a7 h7 a8 h8 a9 h9) Q

/-- At the first point the block's column sums and sums of squares start the running ones. -/
theorem enc_first (hi : (i 0).val = 0) (D : Vec F S1024x2048 .f32) (s q : Vec F S1x2048 .f32) (Q : PUnit → sProp 𝕄) :
    iprop(own d a2 D ∗ own d a6 s ∗ own d a7 q ∗ (iprop(own d a2 D ∗ own d a6 (k0_pay3 D) ∗ own d a7 (k0_pay4 D)) -∗ Q ⟨⟩))
      ⊢ wpEnc d i a1 h1 a2 h2 a3 h3 a4 h4 a5 h5 a6 h6 a7 h7 a8 h8 a9 h9 Q := by
  have c1 := (bit_lt i).2 (by omega)
  have c2 := (bit_zero i).2 hi
  have c3 := mt (bit_pos i).1 (by omega)
  have c4 := mt (bit_last i).1 (by omega)
  have c5 := mt (bit_ge i).1 (by omega)
  unfold wpEnc
  rw [cc0__encode_body_eq_skeleton]; unfold cc0__encode_body_skel
  simp only [dif_pos c1, dif_pos c2, dif_neg c3, dif_neg c4, dif_neg c5,
    Prog.lift, Prog.bind_op, Prog.bind_ret, Prog.pure_eq_ret, Prog.bind_assoc]
  iintro ⟨H2, H6, H7, Hk⟩
  iapply (owns_load_whole d a2 zero2 _ D _) $$ H2; iintro H2
  iapply (owns_load_whole d a6 zero2 _ s _) $$ H6; iintro H6
  iapply (owns_store_whole d a6 _ s _) $$ H6; iintro H6
  iapply (owns_load_whole d a7 zero2 _ q _) $$ H7; iintro H7
  iapply (owns_store_whole d a7 _ q _) $$ H7; iintro H7
  rw [wp_ret]; imodintro
  iapply Hk
  isplitl [H2]; · iexact H2
  isplitl [H6]; · iexact H6
  iexact H7

/-- At the points after the first and before the sixteenth the block's sums are added to the running ones. -/
theorem enc_next (hi : 0 < (i 0).val) (hi' : (i 0).val < 15) (D : Vec F S1024x2048 .f32) (s q : Vec F S1x2048 .f32) (Q : PUnit → sProp 𝕄) :
    iprop(own d a2 D ∗ own d a6 s ∗ own d a7 q ∗ (iprop(own d a2 D ∗ own d a6 (k0_pay5 D s) ∗ own d a7 (k0_pay6 D q)) -∗ Q ⟨⟩))
      ⊢ wpEnc d i a1 h1 a2 h2 a3 h3 a4 h4 a5 h5 a6 h6 a7 h7 a8 h8 a9 h9 Q := by
  have c1 := (bit_lt i).2 (by omega)
  have c2 := mt (bit_zero i).1 (by omega)
  have c3 := (bit_pos i).2 hi
  have c4 := mt (bit_last i).1 (by omega)
  have c5 := mt (bit_ge i).1 (by omega)
  unfold wpEnc
  rw [cc0__encode_body_eq_skeleton]; unfold cc0__encode_body_skel
  simp only [dif_pos c1, dif_neg c2, dif_pos c3, dif_neg c4, dif_neg c5,
    Prog.lift, Prog.bind_op, Prog.bind_ret, Prog.pure_eq_ret, Prog.bind_assoc]
  iintro ⟨H2, H6, H7, Hk⟩
  iapply (owns_load_whole d a2 zero2 _ D _) $$ H2; iintro H2
  iapply (owns_load_whole d a6 zero2 _ s _) $$ H6; iintro H6
  iapply (owns_load_whole d a6 zero2 _ s _) $$ H6; iintro H6
  iapply (owns_store_whole d a6 _ s _) $$ H6; iintro H6
  iapply (owns_load_whole d a7 zero2 _ q _) $$ H7; iintro H7
  iapply (owns_load_whole d a7 zero2 _ q _) $$ H7; iintro H7
  iapply (owns_store_whole d a7 _ q _) $$ H7; iintro H7
  rw [wp_ret]; imodintro
  iapply Hk
  isplitl [H2]; · iexact H2
  isplitl [H6]; · iexact H6
  iexact H7

/-- At the sixteenth point the last block's sums are added and the input is normalised by what they give. -/
theorem enc_norm (hi : (i 0).val = 15) (D : Vec F S1024x2048 .f32) (s q x : Vec F S1x2048 .f32) (v : Vec F S2048x1 .f32) (Q : PUnit → sProp 𝕄) :
    iprop(own d a1 x ∗ own d a2 D ∗ own d a6 s ∗ own d a7 q ∗ own d a8 v
        ∗ (iprop(own d a1 x ∗ own d a2 D ∗ own d a6 (k0_pay5 D s) ∗ own d a7 (k0_pay6 D q)
          ∗ own d a8 (k0_pay7 (k0_pay5 D s) (k0_pay6 D q) x)) -∗ Q ⟨⟩))
      ⊢ wpEnc d i a1 h1 a2 h2 a3 h3 a4 h4 a5 h5 a6 h6 a7 h7 a8 h8 a9 h9 Q := by
  have c1 := (bit_lt i).2 (by omega)
  have c2 := mt (bit_zero i).1 (by omega)
  have c3 := (bit_pos i).2 (by omega)
  have c4 := (bit_last i).2 hi
  have c5 := mt (bit_ge i).1 (by omega)
  unfold wpEnc
  rw [cc0__encode_body_eq_skeleton]; unfold cc0__encode_body_skel
  simp only [dif_pos c1, dif_neg c2, dif_pos c3, dif_pos c4, dif_neg c5,
    Prog.lift, Prog.bind_op, Prog.bind_ret, Prog.pure_eq_ret, Prog.bind_assoc]
  iintro ⟨H1, H2, H6, H7, H8, Hk⟩
  iapply (owns_load_whole d a2 zero2 _ D _) $$ H2; iintro H2
  iapply (owns_load_whole d a6 zero2 _ s _) $$ H6; iintro H6
  iapply (owns_load_whole d a6 zero2 _ s _) $$ H6; iintro H6
  iapply (owns_store_whole d a6 _ s _) $$ H6; iintro H6
  iapply (owns_load_whole d a7 zero2 _ q _) $$ H7; iintro H7
  iapply (owns_load_whole d a7 zero2 _ q _) $$ H7; iintro H7
  iapply (owns_store_whole d a7 _ q _) $$ H7; iintro H7
  iapply (owns_load_whole d a6 zero2 _ (k0_pay5 D s) _) $$ H6; iintro H6
  iapply (owns_load_whole d a7 zero2 _ (k0_pay6 D q) _) $$ H7; iintro H7
  iapply (owns_load_whole d a1 zero2 _ x _) $$ H1; iintro H1
  iapply (owns_load_whole d a8 zero2 _ v _) $$ H8; iintro H8
  iapply (owns_store_whole d a8 _ v _) $$ H8; iintro H8
  rw [wp_ret]; imodintro
  iapply Hk
  isplitl [H1]; · iexact H1
  isplitl [H2]; · iexact H2
  isplitl [H6]; · iexact H6
  isplitl [H7]; · iexact H7
  iexact H8

/-- The rows of the normalised input that a point from the seventeenth on multiplies by its block of the weights. -/
abbrev rowsAt (hi : 16 ≤ (i 0).val) (v : Vec F S2048x1 .f32) : Vec F S512x1 .f32 :=
  View.ld v (Rect.unit (s := S2048x1) (k0_off1 i) S512x1.size (k0_off1_inb i ((bit_ge i).2 hi)))

/-- At the seventeenth point the first block of products starts the running one. -/
theorem enc_mul_first (hi : (i 0).val = 16) (W : Vec F S512x4096 .f32) (v : Vec F S2048x1 .f32) (c : Vec F S1x4096 .f32) (Q : PUnit → sProp 𝕄) :
    iprop(own d a3 W ∗ own d a8 v ∗ own d a9 c
        ∗ (iprop(own d a3 W ∗ own d a8 v ∗ own d a9 (k0_pay9 (rowsAt i (by omega) v) W)) -∗ Q ⟨⟩))
      ⊢ wpEnc d i a1 h1 a2 h2 a3 h3 a4 h4 a5 h5 a6 h6 a7 h7 a8 h8 a9 h9 Q := by
  have c1 := mt (bit_lt i).1 (by omega)
  have c4 := mt (bit_last i).1 (by omega)
  have c5 := (bit_ge i).2 (by omega)
  have c6 := (bit_first i).2 hi
  have c7 := mt (bit_after i).1 (by omega)
  have c8 := mt (bit_end i).1 (by omega)
  unfold wpEnc
  rw [cc0__encode_body_eq_skeleton]; unfold cc0__encode_body_skel
  simp only [dif_neg c1, dif_neg c4, dif_pos c5, dif_pos c6, dif_neg c7, dif_neg c8,
    Prog.lift, Prog.bind_op, Prog.bind_ret, Prog.pure_eq_ret, Prog.bind_assoc]
  iintro ⟨H3, H8, H9, Hk⟩
  iapply (owns_load d a8 _ v _) $$ H8; iintro H8
  iapply (owns_load_whole d a3 zero2 _ W _) $$ H3; iintro H3
  iapply (owns_load_whole d a9 zero2 _ c _) $$ H9; iintro H9
  iapply (owns_store_whole d a9 _ c _) $$ H9; iintro H9
  rw [wp_ret]; imodintro
  iapply Hk
  isplitl [H3]; · iexact H3
  isplitl [H8]; · iexact H8
  iexact H9

/-- At the points between the seventeenth and the last the block's products are added to the running ones. -/
theorem enc_mul_next (hi : 16 < (i 0).val) (hi' : (i 0).val < 19) (W : Vec F S512x4096 .f32) (v : Vec F S2048x1 .f32) (c : Vec F S1x4096 .f32)
    (Q : PUnit → sProp 𝕄) :
    iprop(own d a3 W ∗ own d a8 v ∗ own d a9 c
        ∗ (iprop(own d a3 W ∗ own d a8 v ∗ own d a9 (k0_pay10 (rowsAt i (by omega) v) W c)) -∗ Q ⟨⟩))
      ⊢ wpEnc d i a1 h1 a2 h2 a3 h3 a4 h4 a5 h5 a6 h6 a7 h7 a8 h8 a9 h9 Q := by
  have c1 := mt (bit_lt i).1 (by omega)
  have c4 := mt (bit_last i).1 (by omega)
  have c5 := (bit_ge i).2 (by omega)
  have c6 := mt (bit_first i).1 (by omega)
  have c7 := (bit_after i).2 hi
  have c8 := mt (bit_end i).1 (by omega)
  unfold wpEnc
  rw [cc0__encode_body_eq_skeleton]; unfold cc0__encode_body_skel
  simp only [dif_neg c1, dif_neg c4, dif_pos c5, dif_neg c6, dif_pos c7, dif_neg c8,
    Prog.lift, Prog.bind_op, Prog.bind_ret, Prog.pure_eq_ret, Prog.bind_assoc]
  iintro ⟨H3, H8, H9, Hk⟩
  iapply (owns_load d a8 _ v _) $$ H8; iintro H8
  iapply (owns_load_whole d a3 zero2 _ W _) $$ H3; iintro H3
  iapply (owns_load_whole d a9 zero2 _ c _) $$ H9; iintro H9
  iapply (owns_load_whole d a9 zero2 _ c _) $$ H9; iintro H9
  iapply (owns_store_whole d a9 _ c _) $$ H9; iintro H9
  rw [wp_ret]; imodintro
  iapply Hk
  isplitl [H3]; · iexact H3
  isplitl [H8]; · iexact H8
  iexact H9

/-- At the last point the last block's products are added and the encoding is written. -/
theorem enc_out (hi : (i 0).val = 19) (W : Vec F S512x4096 .f32) (v : Vec F S2048x1 .f32) (c b o : Vec F S1x4096 .f32) (Q : PUnit → sProp 𝕄) :
    iprop(own d a3 W ∗ own d a4 b ∗ own d a5 o ∗ own d a8 v ∗ own d a9 c
        ∗ (iprop(own d a3 W ∗ own d a4 b ∗ own d a5 (k0_pay11 (k0_pay10 (rowsAt i (by omega) v) W c) b) ∗ own d a8 v
          ∗ own d a9 (k0_pay10 (rowsAt i (by omega) v) W c)) -∗ Q ⟨⟩))
      ⊢ wpEnc d i a1 h1 a2 h2 a3 h3 a4 h4 a5 h5 a6 h6 a7 h7 a8 h8 a9 h9 Q := by
  have c1 := mt (bit_lt i).1 (by omega)
  have c4 := mt (bit_last i).1 (by omega)
  have c5 := (bit_ge i).2 (by omega)
  have c6 := mt (bit_first i).1 (by omega)
  have c7 := (bit_after i).2 (by omega)
  have c8 := (bit_end i).2 hi
  unfold wpEnc
  rw [cc0__encode_body_eq_skeleton]; unfold cc0__encode_body_skel
  simp only [dif_neg c1, dif_neg c4, dif_pos c5, dif_neg c6, dif_pos c7, dif_pos c8,
    Prog.lift, Prog.bind_op, Prog.bind_ret, Prog.pure_eq_ret, Prog.bind_assoc]
  iintro ⟨H3, H4, H5, H8, H9, Hk⟩
  iapply (owns_load d a8 _ v _) $$ H8; iintro H8
  iapply (owns_load_whole d a3 zero2 _ W _) $$ H3; iintro H3
  iapply (owns_load_whole d a9 zero2 _ c _) $$ H9; iintro H9
  iapply (owns_load_whole d a9 zero2 _ c _) $$ H9; iintro H9
  iapply (owns_store_whole d a9 _ c _) $$ H9; iintro H9
  iapply (owns_load_whole d a9 zero2 _ (k0_pay10 (rowsAt i (by omega) v) W c) _) $$ H9; iintro H9
  iapply (owns_load_whole d a4 zero2 _ b _) $$ H4; iintro H4
  iapply (owns_load_whole d a5 zero2 _ o _) $$ H5; iintro H5
  iapply (owns_store_whole d a5 _ o _) $$ H5; iintro H5
  rw [wp_ret]; imodintro
  iapply Hk
  isplitl [H3]; · iexact H3
  isplitl [H4]; · iexact H4
  isplitl [H5]; · iexact H5
  isplitl [H8]; · iexact H8
  iexact H9

end Body

end Cert.Proof.Sc

end
-- ==== Proof.EncodeValue.lean ====
/-
  The encoder's values: the blocks its windows stage, the running column sums and sums of squares, the normalised
  input, the running products with the weights, and the encoding.
-/
module

public import proofs.«01_k».proof.Proof.EncodeBody

@[expose] public section

noncomputable section

namespace Cert.Proof.Sc

open Cert.KernelIdeal Cert.KernelIdeal.Gen
open Idealize.ShloMosaic

variable {F : FTy → Type} [FloatOps F]

/-- Block `t` of 1024 rows of the table (the last one from the sixteenth on). -/
def memBlk (D : Vec F S16384x2048 .f32) (t : ℕ) : Vec F S1024x2048 .f32 :=
  fun j => D (ix2 ⟨1024 * min t 15 + (j 0).val, by have : (j 0).val < 1024 := (j 0).isLt; omega⟩ (j 1))

/-- Block `t` of 512 rows of the weights (the last one from the fourth on). -/
def wBlk (W : Vec F S2048x4096 .f32) (t : ℕ) : Vec F S512x4096 .f32 :=
  fun j => W (ix2 ⟨512 * min t 3 + (j 0).val, by have : (j 0).val < 512 := (j 0).isLt; omega⟩ (j 1))

/-- Block `t` of 512 rows of a column (the last one from the fourth on). -/
def colBlk (v : Vec F S2048x1 .f32) (t : ℕ) : Vec F S512x1 .f32 :=
  fun j => v (ix2 ⟨512 * min t 3 + (j 0).val, by have : (j 0).val < 512 := (j 0).isLt; omega⟩ (j 1))

/-- The columns' sums over the blocks up to `t`. -/
def sumAt (D : Vec F S16384x2048 .f32) : ℕ → Vec F S1x2048 .f32
  | 0 => k0_pay3 (memBlk D 0)
  | t + 1 => k0_pay5 (memBlk D (t + 1)) (sumAt D t)

/-- The columns' sums of squares over the blocks up to `t`. -/
def sqAt (D : Vec F S16384x2048 .f32) : ℕ → Vec F S1x2048 .f32
  | 0 => k0_pay4 (memBlk D 0)
  | t + 1 => k0_pay6 (memBlk D (t + 1)) (sqAt D t)

/-- The input normalised by the table's columns. -/
def newV (x : Vec F S1x2048 .f32) (D : Vec F S16384x2048 .f32) : Vec F S2048x1 .f32 := k0_pay7 (sumAt D 15) (sqAt D 15) x

/-- The products of the normalised input with the weights' blocks up to `t`. -/
def accAt (v : Vec F S2048x1 .f32) (W : Vec F S2048x4096 .f32) : ℕ → Vec F S1x4096 .f32
  | 0 => k0_pay9 (colBlk v 0) (wBlk W 0)
  | t + 1 => k0_pay10 (colBlk v (t + 1)) (wBlk W (t + 1)) (accAt v W t)

/-- The encoding. -/
def encOut (x : Vec F S1x2048 .f32) (D : Vec F S16384x2048 .f32) (W : Vec F S2048x4096 .f32) (b : Vec F S1x4096 .f32) : Vec F S1x4096 .f32 :=
  k0_pay11 (accAt (newV x D) W 3) b

/-! ## The windows' blocks -/

theorem coords0_val (t : Fin grid0.N) : ((grid0.coords t) 0).val = t.val :=
  (by decide : ∀ t : Fin grid0.N, ((grid0.coords t) 0).val = t.val) t

theorem index0_1 (t : Fin grid0.N) : cc0_transform_1 (grid0.coords t) = ![min t.val 15, 0] :=
  (by decide : ∀ t : Fin grid0.N, cc0_transform_1 (grid0.coords t) = ![min t.val 15, 0]) t

theorem index0_2 (t : Fin grid0.N) : cc0_transform_2 (grid0.coords t) = ![min (t.val - 16) 3, 0] :=
  (by decide : ∀ t : Fin grid0.N, cc0_transform_2 (grid0.coords t) = ![min (t.val - 16) 3, 0]) t

theorem read0_0 (t : Fin grid0.N) (X : Vec F S1x2048 .f32) : (win0_0.blk t).view.read (Elt F) X = X := by
  funext j
  refine congrArg X (funext fun a => Fin.ext ?_)
  fin_cases a
  · show 0 * 1 + 1 * (j 0).val = (j 0).val; omega
  · show 0 * 2048 + 1 * (j 1).val = (j 1).val; omega

theorem read0_1 (t : Fin grid0.N) (X : Vec F S16384x2048 .f32) : (win0_1.blk t).view.read (Elt F) X = memBlk X t.val := by
  funext j
  refine congrArg X (funext fun a => Fin.ext ?_)
  have h := index0_1 t
  fin_cases a
  · show cc0_transform_1 (grid0.coords t) 0 * 1024 + 1 * (j 0).val = 1024 * min t.val 15 + (j 0).val
    rw [h]; show min t.val 15 * 1024 + 1 * (j 0).val = _; omega
  · show cc0_transform_1 (grid0.coords t) 1 * 2048 + 1 * (j 1).val = (j 1).val
    rw [h]; show 0 * 2048 + 1 * (j 1).val = _; omega

theorem read0_2 (t : Fin grid0.N) (X : Vec F S2048x4096 .f32) : (win0_2.blk t).view.read (Elt F) X = wBlk X (t.val - 16) := by
  funext j
  refine congrArg X (funext fun a => Fin.ext ?_)
  have h := index0_2 t
  fin_cases a
  · show cc0_transform_2 (grid0.coords t) 0 * 512 + 1 * (j 0).val = 512 * min (t.val - 16) 3 + (j 0).val
    rw [h]; show min (t.val - 16) 3 * 512 + 1 * (j 0).val = _; omega
  · show cc0_transform_2 (grid0.coords t) 1 * 4096 + 1 * (j 1).val = (j 1).val
    rw [h]; show 0 * 4096 + 1 * (j 1).val = _; omega

theorem read0_3 (t : Fin grid0.N) (X : Vec F S1x4096 .f32) : (win0_3.blk t).view.read (Elt F) X = X := by
  funext j
  refine congrArg X (funext fun a => Fin.ext ?_)
  fin_cases a
  · show 0 * 1 + 1 * (j 0).val = (j 0).val; omega
  · show 0 * 4096 + 1 * (j 1).val = (j 1).val; omega

theorem read0_4 (t : Fin grid0.N) (X : Vec F S1x4096 .f32) : (win0_4.blk t).view.read (Elt F) X = X := by
  funext j
  refine congrArg X (funext fun a => Fin.ext ?_)
  fin_cases a
  · show 0 * 1 + 1 * (j 0).val = (j 0).val; omega
  · show 0 * 4096 + 1 * (j 1).val = (j 1).val; omega

theorem off0 (i : grid0.Coords) (hi : 16 ≤ (i 0).val) : k0_off1 i = ![512 * ((i 0).val - 16), 0] :=
  (by decide : ∀ n : Fin 20, 16 ≤ n.val →
    (![(Scalar.indexCast (Scalar.muli (Scalar.subi (BitVec.ofNat 32 n.val) 16#32) 512#32) : Index).toNat, 0] : Fin 2 → ℕ) = ![512 * (n.val - 16), 0]) (i 0) hi

/-- The rows of the column that a point from the seventeenth on loads are its block of them. -/
theorem rowsAt_eq (i : grid0.Coords) (hi : 16 ≤ (i 0).val) (v : Vec F S2048x1 .f32) : rowsAt i hi v = colBlk v ((i 0).val - 16) := by
  funext j
  refine congrArg v (funext fun a => Fin.ext ?_)
  have h := off0 i hi
  have hlt : (i 0).val < 20 := (i 0).isLt
  fin_cases a
  · show k0_off1 i 0 + 1 * (j 0).val = 512 * min ((i 0).val - 16) 3 + (j 0).val
    rw [h]; show 512 * ((i 0).val - 16) + 1 * (j 0).val = _; omega
  · show k0_off1 i 1 + 1 * (j 1).val = (j 1).val
    rw [h]; show 0 + 1 * (j 1).val = _; omega

end Cert.Proof.Sc

end
-- ==== Proof.Encode.lean ====
/-
  The encoder's pipeline: what each point finds and leaves in the staging and scratch buffers, the obligation of its
  body from that, and the encoding's array after the last point.
-/
module

public import proofs.«01_k».proof.Proof.EncodeValue
public import proofs.«01_k».proof.Proof.Gen.KernelIdeal.Launch
public import Idealize.ShloMosaic.Lib.Pipeline.RegionArrays
public import Idealize.ShloMosaic.Lib.Pipeline.FrameBody

@[expose] public section

noncomputable section

namespace Cert.Proof.Sc

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- A buffer of the TensorCore held whole at some contents. -/
abbrev anyBuf (c : Dev nD) (b : Ref sig .tc) : sProp 𝕄 :=
  iprop(∃ f : Buf (Elt F) ((c : Thread nD τ).loc b), ((c : Thread nD τ).loc b) ↦{fullShare} f)

theorem sum_start (D : Vec F S16384x2048 .f32) (t : ℕ) (h : t = 0) : k0_pay3 (memBlk D t) = sumAt D (min t 15) := by rw [h]; rfl

theorem sq_start (D : Vec F S16384x2048 .f32) (t : ℕ) (h : t = 0) : k0_pay4 (memBlk D t) = sqAt D (min t 15) := by rw [h]; rfl

theorem sum_step (D : Vec F S16384x2048 .f32) (t : ℕ) (h : 0 < t) (h' : t ≤ 15) {s : Vec F S1x2048 .f32} (hs : s = sumAt D (min (t - 1) 15)) :
    k0_pay5 (memBlk D t) s = sumAt D (min t 15) := by
  obtain ⟨n, rfl⟩ : ∃ n, t = n + 1 := ⟨t - 1, by omega⟩
  rw [hs, show min (n + 1 - 1) 15 = n by omega, show min (n + 1) 15 = n + 1 by omega]; rfl

theorem sq_step (D : Vec F S16384x2048 .f32) (t : ℕ) (h : 0 < t) (h' : t ≤ 15) {q : Vec F S1x2048 .f32} (hq : q = sqAt D (min (t - 1) 15)) :
    k0_pay6 (memBlk D t) q = sqAt D (min t 15) := by
  obtain ⟨n, rfl⟩ : ∃ n, t = n + 1 := ⟨t - 1, by omega⟩
  rw [hq, show min (n + 1 - 1) 15 = n by omega, show min (n + 1) 15 = n + 1 by omega]; rfl

theorem norm_step (x : Vec F S1x2048 .f32) (D : Vec F S16384x2048 .f32) (t : ℕ) (h : t = 15) {s q : Vec F S1x2048 .f32}
    (hs : s = sumAt D (min (t - 1) 15)) (hq : q = sqAt D (min (t - 1) 15)) :
    k0_pay7 (k0_pay5 (memBlk D t) s) (k0_pay6 (memBlk D t) q) x = newV x D := by
  rw [sum_step D t (by omega) (by omega) hs, sq_step D t (by omega) (by omega) hq, h]; rfl

theorem acc_first (v : Vec F S2048x1 .f32) (W : Vec F S2048x4096 .f32) (t : Fin grid0.N) (h : t.val = 16) {v' : Vec F S2048x1 .f32} (hv : v' = v)
    {hi : 16 ≤ ((grid0.coords t) 0).val} :
    k0_pay9 (rowsAt (grid0.coords t) hi v') (wBlk W (t.val - 16)) = accAt v W (t.val - 16) := by
  rw [hv, rowsAt_eq, coords0_val, h]; rfl

theorem acc_next (v : Vec F S2048x1 .f32) (W : Vec F S2048x4096 .f32) (t : Fin grid0.N) (h : 16 < t.val) {v' : Vec F S2048x1 .f32} (hv : v' = v)
    {hi : 16 ≤ ((grid0.coords t) 0).val} {a : Vec F S1x4096 .f32} (ha : a = accAt v W (t.val - 17)) :
    k0_pay10 (rowsAt (grid0.coords t) hi v') (wBlk W (t.val - 16)) a = accAt v W (t.val - 16) := by
  rw [hv, rowsAt_eq, coords0_val, ha, show t.val - 16 = (t.val - 17) + 1 by omega]; rfl

section Region

variable (x : Dev nD → Vec F S1x2048 .f32) (D : Dev nD → Vec F S16384x2048 .f32) (W : Dev nD → Vec F S2048x4096 .f32)
  (b o : Dev nD → Vec F S1x4096 .f32)

/-- The scoped buffers of the other pipeline. -/
abbrev rest0 (c : Dev nD) : sProp 𝕄 :=
  iprop(anyBuf (F := F) c cc2_stg0_0 ∗ anyBuf (F := F) c cc2_stg1_0 ∗ anyBuf (F := F) c cc2_stg1_1 ∗ anyBuf (F := F) c cc2_stg2_0 ∗ anyBuf (F := F) c cc2_scratch0)

/-- Before point `n` the scratch buffers hold the sums over the blocks so far, then the normalised input, then the products so far. -/
def phi0 (c : Dev nD) (n : ℕ) : sProp 𝕄 :=
  iprop((∃ s, ⌜1 ≤ n → s = sumAt (D c) (min (n - 1) 15)⌝ ∗ own c (Memref.whole cc0_scratch0) s)
    ∗ (∃ q, ⌜1 ≤ n → q = sqAt (D c) (min (n - 1) 15)⌝ ∗ own c (Memref.whole cc0_scratch1) q)
    ∗ (∃ v, ⌜16 ≤ n → v = newV (x c) (D c)⌝ ∗ own c (Memref.whole cc0_scratch2) v)
    ∗ (∃ a, ⌜17 ≤ n → a = accAt (newV (x c) (D c)) (W c) (n - 17)⌝ ∗ own c (Memref.whole cc0_scratch3) a)
    ∗ rest0 (F := F) c)

/-- The encoder's proof data. -/
def dat0 (c : Dev nD) : Dat τ (Elt F) (HIx 1) ℕ UU ℕ cfg0 c where
  A w := match w with
    | ⟨0, _⟩ => x c
    | ⟨1, _⟩ => D c
    | ⟨2, _⟩ => W c
    | ⟨3, _⟩ => b c
    | ⟨4, _⟩ => o c
  after w t := match w with
    | ⟨0, _⟩ => x c
    | ⟨1, _⟩ => memBlk (D c) t.val
    | ⟨2, _⟩ => wBlk (W c) (t.val - 16)
    | ⟨3, _⟩ => b c
    | ⟨4, _⟩ => encOut (x c) (D c) (W c) (b c)
  Φ t := phi0 x D W c t.val
  q _ := fullShare
  owed _ := (K (F := F)).Otc c 0
  recorded _ := below (F := F) c 0

theorem before0_0 (c : Dev nD) (t : Fin cfg0.N) (d) : (dat0 x D W b o c).before 0 t d = x c :=
  ((dat0 x D W b o c).before_in_eq_fetched 0 rfl (fun _ => rfl) (fun _ _ _ => rfl) (fun t => (read0_0 t (x c)).symm) t d).trans (read0_0 t (x c))

theorem before0_1 (c : Dev nD) (t : Fin cfg0.N) (d) : (dat0 x D W b o c).before 1 t d = memBlk (D c) t.val :=
  ((dat0 x D W b o c).before_in_eq_fetched 1 rfl (fun _ => rfl) (fun _ _ _ => rfl) (fun t => (read0_1 t (D c)).symm) t d).trans (read0_1 t (D c))

theorem before0_2 (c : Dev nD) (t : Fin cfg0.N) (d) : (dat0 x D W b o c).before 2 t d = wBlk (W c) (t.val - 16) :=
  ((dat0 x D W b o c).before_in_eq_fetched 2 rfl (fun _ => rfl) (fun _ _ _ => rfl) (fun t => (read0_2 t (W c)).symm) t d).trans (read0_2 t (W c))

theorem before0_3 (c : Dev nD) (t : Fin cfg0.N) (d) : (dat0 x D W b o c).before 3 t d = b c :=
  ((dat0 x D W b o c).before_in_eq_fetched 3 rfl (fun _ => rfl) (fun _ _ _ => rfl) (fun t => (read0_3 t (b c)).symm) t d).trans (read0_3 t (b c))

theorem idle0_4 (t : Fin cfg0.N) (ht : t.val < 19) : cfg0.idle 4 (cfg0.grid.coords t) = true :=
  (by decide : ∀ t : Fin grid0.N, t.val < 19 → idle0 4 (grid0.coords t) = true) t ht

theorem live0_4 (t : Fin cfg0.N) (ht : ¬ t.val < 19) : cfg0.idle 4 (cfg0.grid.coords t) = false :=
  (by decide : ∀ t : Fin grid0.N, ¬ t.val < 19 → idle0 4 (grid0.coords t) = false) t ht

theorem noflush0_4 (t : Fin cfg0.N) (ht : t.val < 19) : (cfg0.win 4).flush t = false := by
  rw [Bool.eq_false_iff]; intro h; have := (flush0_4 t).1 h; omega

/-- The output window's buffer after a point before the last is as some fetch left it. -/
theorem leaves0_4 (c : Dev nD) (t : Fin cfg0.N) (ht : t.val < 19) :
    (dat0 x D W b o c).leavesExact 4 t = iprop(∃ d, owns (c : Thread nD τ) ((cfg0.win 4).stage (cfg0.slots t 4)) fullShare ((dat0 x D W b o c).before 4 t d)) :=
  (dat0 x D W b o c).leavesExact_idle 4 t (idle0_4 t ht) (noflush0_4 t ht)

theorem leaves0_4_last (c : Dev nD) (t : Fin cfg0.N) (ht : ¬ t.val < 19) :
    (dat0 x D W b o c).leavesExact 4 t = owns (c : Thread nD τ) ((cfg0.win 4).stage (cfg0.slots t 4)) fullShare (encOut (x c) (D c) (W c) (b c)) := by
  unfold Dat.leavesExact
  rw [live0_4 t ht]
  rfl

/-- What a point leaves, put together: the scratch buffers at what the next point expects, and the windows' buffers. -/
theorem assemble0 (c : Dev nD) (t : Fin cfg0.N) (s q : Vec F S1x2048 .f32) (v : Vec F S2048x1 .f32) (a : Vec F S1x4096 .f32)
    (hs : s = sumAt (D c) (min t.val 15)) (hq : q = sqAt (D c) (min t.val 15))
    (hv : 15 ≤ t.val → v = newV (x c) (D c)) (ha : 16 ≤ t.val → a = accAt (newV (x c) (D c)) (W c) (t.val - 16)) :
    iprop(own c (Memref.whole cc0_scratch0) s ∗ own c (Memref.whole cc0_scratch1) q ∗ own c (Memref.whole cc0_scratch2) v
        ∗ own c (Memref.whole cc0_scratch3) a ∗ rest0 (F := F) c ∗ (dat0 x D W b o c).owesAt none t.castSucc
        ∗ own c (st0_0 t) (x c) ∗ own c (st0_1 t) (memBlk (D c) t.val) ∗ own c (st0_2 t) (wBlk (W c) (t.val - 16)) ∗ own c (st0_3 t) (b c)
        ∗ (dat0 x D W b o c).leavesExact 4 t)
      ⊢ iprop(phi0 x D W c (t.val + 1) ∗ (dat0 x D W b o c).owesAt none t.castSucc
        ∗ (dat0 x D W b o c).leavesExact 0 t ∗ (dat0 x D W b o c).leavesExact 1 t ∗ (dat0 x D W b o c).leavesExact 2 t
        ∗ (dat0 x D W b o c).leavesExact 3 t ∗ (dat0 x D W b o c).leavesExact 4 t) := by
  unfold phi0
  iintro ⟨HS, HQ, HV, HA, HR, HO, H0, H1, H2, H3, H4⟩
  isplitl [HS HQ HV HA HR]
  · isplitl [HS]
    · iexists s; isplitr
      · ipureintro; exact fun _ => hs
      iexact HS
    isplitl [HQ]
    · iexists q; isplitr
      · ipureintro; exact fun _ => hq
      iexact HQ
    isplitl [HV]
    · iexists v; isplitr
      · ipureintro; exact fun h => hv (by omega)
      iexact HV
    isplitl [HA]
    · iexists a; isplitr
      · ipureintro; exact fun h => (ha (by omega)).trans (congrArg (accAt _ _) (by omega))
      iexact HA
    iexact HR
  isplitl [HO]; · iexact HO
  isplitl [H0]; · iexact H0
  isplitl [H1]; · iexact H1
  isplitl [H2]; · iexact H2
  isplitl [H3]; · iexact H3
  iexact H4

/-- The encoding as the last point writes it. -/
theorem out_last (c : Dev nD) (t : Fin cfg0.N) (h : t.val = 19) {hi : 16 ≤ ((grid0.coords t) 0).val} {v : Vec F S2048x1 .f32} {a : Vec F S1x4096 .f32}
    (hv : v = newV (x c) (D c)) (ha : a = accAt (newV (x c) (D c)) (W c) (t.val - 17)) :
    (owns (c : Thread nD τ) ((cfg0.win 4).stage (cfg0.slots t 4)) fullShare (encOut (x c) (D c) (W c) (b c)) : sProp 𝕄)
      = own c (st0_4 t) (k0_pay11 (k0_pay10 (rowsAt (grid0.coords t) hi v) (wBlk (W c) (t.val - 16)) a) (b c)) := by
  rw [acc_next (newV (x c) (D c)) (W c) t (by omega) hv ha, h]; rfl

/-- The encoder's body does at every point what its proof data says. -/
theorem body_obligation0 (c : Dev nD) : BodyObligation (dat0 x D W b o c) (defs₀ (F := F)) 𝒱₀ none Set.univ := fun t => by
  have hN : t.val < 20 := N_0 ▸ t.isLt
  have hc : ((grid0.coords t) 0).val = t.val := coords0_val t
  rw [bigSep_W0, bigSep_W0]
  rw [show (dat0 x D W b o c).Φ t.castSucc = phi0 x D W c t.val from rfl, show (dat0 x D W b o c).Φ t.succ = phi0 x D W c (t.val + 1) from rfl,
    show (dat0 x D W b o c).owesAt none t.succ = (dat0 x D W b o c).owesAt none t.castSucc from rfl]
  iintro ⟨HΦ, Howes, ⟨%d0, H0⟩, ⟨%d1, H1⟩, ⟨%d2, H2⟩, ⟨%d3, H3⟩, H4⟩
  rw [before0_0, before0_1, before0_2, before0_3]
  unfold phi0
  icases HΦ with ⟨⟨%s, %hs, HS⟩, ⟨%q, %hq, HQ⟩, ⟨%v, %hv, HV⟩, ⟨%a, %ha, HA⟩, HR⟩

  rcases Nat.lt_or_ge t.val 15 with h15 | h15
  · ihave H4 := (Entails.of_eq (leaves0_4 x D W b o c t (by omega)).symm) $$ H4
    rcases Nat.eq_zero_or_pos t.val with h0 | h0
    · iapply (enc_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (hc.trans h0) _ s q _)
      isplitl [H1]; · iexact H1
      isplitl [HS]; · iexact HS
      isplitl [HQ]; · iexact HQ
      iintro ⟨H1, HS, HQ⟩
      iapply (assemble0 x D W b o c t _ _ v a (sum_start (D c) t.val h0) (sq_start (D c) t.val h0) (fun h => absurd h (by omega)) (fun h => absurd h (by omega)))
      isplitl [HS]; · iexact HS
      isplitl [HQ]; · iexact HQ
      isplitl [HV]; · iexact HV
      isplitl [HA]; · iexact HA
      isplitl [HR]; · iexact HR
      isplitl [Howes]; · iexact Howes
      isplitl [H0]; · iexact H0
      isplitl [H1]; · iexact H1
      isplitl [H2]; · iexact H2
      isplitl [H3]; · iexact H3
      iexact H4
    · iapply (enc_next c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (by omega) (by omega) _ s q _)
      isplitl [H1]; · iexact H1
      isplitl [HS]; · iexact HS
      isplitl [HQ]; · iexact HQ
      iintro ⟨H1, HS, HQ⟩
      iapply (assemble0 x D W b o c t _ _ v a (sum_step (D c) t.val h0 (by omega) (hs h0)) (sq_step (D c) t.val h0 (by omega) (hq h0)) (fun h => absurd h (by omega)) (fun h => absurd h (by omega)))
      isplitl [HS]; · iexact HS
      isplitl [HQ]; · iexact HQ
      isplitl [HV]; · iexact HV
      isplitl [HA]; · iexact HA
      isplitl [HR]; · iexact HR
      isplitl [Howes]; · iexact Howes
      isplitl [H0]; · iexact H0
      isplitl [H1]; · iexact H1
      isplitl [H2]; · iexact H2
      isplitl [H3]; · iexact H3
      iexact H4
  rcases Nat.lt_or_ge t.val 19 with h19 | h19
  · ihave H4 := (Entails.of_eq (leaves0_4 x D W b o c t h19).symm) $$ H4
    rcases Nat.lt_or_ge t.val 16 with h16 | h16
    · have h : t.val = 15 := by omega
      iapply (enc_norm c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (hc.trans h) _ s q _ v _)
      isplitl [H0]; · iexact H0
      isplitl [H1]; · iexact H1
      isplitl [HS]; · iexact HS
      isplitl [HQ]; · iexact HQ
      isplitl [HV]; · iexact HV
      iintro ⟨H0, H1, HS, HQ, HV⟩
      iapply (assemble0 x D W b o c t _ _ _ a (sum_step (D c) t.val (by omega) (by omega) (hs (by omega))) (sq_step (D c) t.val (by omega) (by omega) (hq (by omega))) (fun _ => norm_step (x c) (D c) t.val h (hs (by omega)) (hq (by omega))) (fun h => absurd h (by omega)))
      isplitl [HS]; · iexact HS
      isplitl [HQ]; · iexact HQ
      isplitl [HV]; · iexact HV
      isplitl [HA]; · iexact HA
      isplitl [HR]; · iexact HR
      isplitl [Howes]; · iexact Howes
      isplitl [H0]; · iexact H0
      isplitl [H1]; · iexact H1
      isplitl [H2]; · iexact H2
      isplitl [H3]; · iexact H3
      iexact H4
    rcases Nat.lt_or_ge t.val 17 with h17 | h17
    · have h : t.val = 16 := by omega
      iapply (enc_mul_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (hc.trans h) _ v a _)
      isplitl [H2]; · iexact H2
      isplitl [HV]; · iexact HV
      isplitl [HA]; · iexact HA
      iintro ⟨H2, HV, HA⟩
      iapply (assemble0 x D W b o c t s q v _ ((hs (by omega)).trans (congrArg _ (by omega))) ((hq (by omega)).trans (congrArg _ (by omega))) (fun _ => hv (by omega)) (fun _ => acc_first (newV (x c) (D c)) (W c) t h (hv (by omega))))
      isplitl [HS]; · iexact HS
      isplitl [HQ]; · iexact HQ
      isplitl [HV]; · iexact HV
      isplitl [HA]; · iexact HA
      isplitl [HR]; · iexact HR
      isplitl [Howes]; · iexact Howes
      isplitl [H0]; · iexact H0
      isplitl [H1]; · iexact H1
      isplitl [H2]; · iexact H2
      isplitl [H3]; · iexact H3
      iexact H4
    have h : 16 < t.val := by omega
    iapply (enc_mul_next c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (by omega) (by omega) _ v a _)
    isplitl [H2]; · iexact H2
    isplitl [HV]; · iexact HV
    isplitl [HA]; · iexact HA
    iintro ⟨H2, HV, HA⟩
    iapply (assemble0 x D W b o c t s q v _ ((hs (by omega)).trans (congrArg _ (by omega))) ((hq (by omega)).trans (congrArg _ (by omega))) (fun _ => hv (by omega)) (fun _ => acc_next (newV (x c) (D c)) (W c) t h (hv (by omega)) (ha (by omega))))
    isplitl [HS]; · iexact HS
    isplitl [HQ]; · iexact HQ
    isplitl [HV]; · iexact HV
    isplitl [HA]; · iexact HA
    isplitl [HR]; · iexact HR
    isplitl [Howes]; · iexact Howes
    isplitl [H0]; · iexact H0
    isplitl [H1]; · iexact H1
    isplitl [H2]; · iexact H2
    isplitl [H3]; · iexact H3
    iexact H4
  icases H4 with ⟨%d4, H4⟩
  iapply (enc_out c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (by omega) _ v a _ _ _)
  isplitl [H2]; · iexact H2
  isplitl [H3]; · iexact H3
  isplitl [H4]; · iexact H4
  isplitl [HV]; · iexact HV
  isplitl [HA]; · iexact HA
  iintro ⟨H2, H3, H4, HV, HA⟩
  ihave H4 := (Entails.of_eq ((leaves0_4_last x D W b o c t (by omega)).trans (out_last x D W b c t (by omega) (hv (by omega)) (ha (by omega)))).symm) $$ H4
  iapply (assemble0 x D W b o c t s q v _ ((hs (by omega)).trans (congrArg _ (by omega))) ((hq (by omega)).trans (congrArg _ (by omega))) (fun _ => hv (by omega)) (fun _ => acc_next (newV (x c) (D c)) (W c) t (by omega) (hv (by omega)) (ha (by omega))))
  isplitl [HS]; · iexact HS
  isplitl [HQ]; · iexact HQ
  isplitl [HV]; · iexact HV
  isplitl [HA]; · iexact HA
  isplitl [HR]; · iexact HR
  isplitl [Howes]; · iexact Howes
  isplitl [H0]; · iexact H0
  isplitl [H1]; · iexact H1
  isplitl [H2]; · iexact H2
  isplitl [H3]; · iexact H3
  iexact H4

/-- After the last point the result's array holds the encoding. -/
theorem arr0_out (c : Dev nD) : (dat0 x D W b o c).arrAt 4 cfg0.N = encOut (x c) (D c) (W c) (b c) := by
  refine (dat0 x D W b o c).arrAt_eq_of_cover 4 (encOut (x c) (D c) (W c) (b c)) (fun t _ => (read0_4 t _).symm) fun i => ?_
  refine ⟨⟨19, by decide⟩, (flush0_4 _).2 rfl, ?_⟩
  refine Finset.mem_map.mpr ⟨(i : S1x4096.Idx), Finset.mem_univ _, funext fun a => Fin.ext ?_⟩
  fin_cases a
  · show 0 * 1 + 1 * ((i : S1x4096.Idx) 0).val = ((i : S1x4096.Idx) 0).val; omega
  · show 0 * 4096 + 1 * ((i : S1x4096.Idx) 1).val = ((i : S1x4096.Idx) 1).val; omega

end Region

end Cert.Proof.Sc

end
-- ==== Proof.Scan.lean ====
/-
  The TensorCore's own scan: at each point a block of 512 rows' least distance joins the running minimum kept in
  scalar memory, and the last point writes it out.
-/
module

public import proofs.«01_k».proof.Proof.Encode
public import Idealize.ShloMosaic.Lib.Pipeline.RegionArrays
public import Idealize.ShloMosaic.Lib.Pipeline.FrameBody

@[expose] public section

noncomputable section

namespace Cert.Proof.Sc

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- Block `t` of the rows of the table that the TensorCore scans (the last one from the eighteenth on). -/
def scanBlk (M : Vec F S16384x4096 .f32) (t : ℕ) : Vec F S512x4096 .f32 :=
  fun j => M (ix2 ⟨512 * (14 + min t 17) + (j 0).val, by have : (j 0).val < 512 := (j 0).isLt; omega⟩ (j 1))

/-- The least distance over the blocks up to `t`. -/
def scanAt (E : Vec F S1x4096 .f32) (M : Vec F S16384x4096 .f32) : ℕ → F .f32
  | 0 => k2_pay1 (scanBlk M 0) E
  | t + 1 => k2_pay2 (scanBlk M (t + 1)) E (scanAt E M t)

/-- The least distance over all the TensorCore's blocks. -/
def scanOut (E : Vec F S1x4096 .f32) (M : Vec F S16384x4096 .f32) : Vec F S1x1 .f32 := k2_pay3 (scanAt E M 17)

theorem coords2_val (t : Fin grid2.N) : ((grid2.coords t) 0).val = t.val :=
  (by decide : ∀ t : Fin grid2.N, ((grid2.coords t) 0).val = t.val) t

theorem index2_1 (t : Fin grid2.N) : cc2_transform_1 (grid2.coords t) = ![14 + min t.val 17, 0] :=
  (by decide : ∀ t : Fin grid2.N, cc2_transform_1 (grid2.coords t) = ![14 + min t.val 17, 0]) t

theorem read2_0 (t : Fin grid2.N) (X : Vec F S1x4096 .f32) : (win2_0.blk t).view.read (Elt F) X = X := by
  funext j
  refine congrArg X (funext fun a => Fin.ext ?_)
  fin_cases a
  · show 0 * 1 + 1 * (j 0).val = (j 0).val; omega
  · show 0 * 4096 + 1 * (j 1).val = (j 1).val; omega

theorem read2_1 (t : Fin grid2.N) (X : Vec F S16384x4096 .f32) : (win2_1.blk t).view.read (Elt F) X = scanBlk X t.val := by
  funext j
  refine congrArg X (funext fun a => Fin.ext ?_)
  have h := index2_1 t
  fin_cases a
  · show cc2_transform_1 (grid2.coords t) 0 * 512 + 1 * (j 0).val = 512 * (14 + min t.val 17) + (j 0).val
    rw [h]; show (14 + min t.val 17) * 512 + 1 * (j 0).val = _; omega
  · show cc2_transform_1 (grid2.coords t) 1 * 4096 + 1 * (j 1).val = (j 1).val
    rw [h]; show 0 * 4096 + 1 * (j 1).val = _; omega

theorem read2_2 (t : Fin grid2.N) (X : Vec F S1x1 .f32) : (win2_2.blk t).view.read (Elt F) X = X := by
  funext j
  refine congrArg X (funext fun a => Fin.ext ?_)
  fin_cases a
  · show 0 * 1 + 1 * (j 0).val = (j 0).val; omega
  · show 0 * 1 + 1 * (j 1).val = (j 1).val; omega

/-- The number of the grid point, as the body holds it. -/
abbrev pt2 (i : grid2.Coords) : BitVec 32 := BitVec.ofNat 32 (i 0).val

theorem bit2_zero (i : grid2.Coords) : bit (Scalar.cmpi .eq (pt2 i) 0#32) ↔ (i 0).val = 0 :=
  (by decide : ∀ n : Fin 18, bit (Scalar.cmpi .eq (BitVec.ofNat 32 n.val) 0#32) ↔ n.val = 0) (i 0)

theorem bit2_pos (i : grid2.Coords) : bit (Scalar.cmpi .sgt (pt2 i) 0#32) ↔ 0 < (i 0).val :=
  (by decide : ∀ n : Fin 18, bit (Scalar.cmpi .sgt (BitVec.ofNat 32 n.val) 0#32) ↔ 0 < n.val) (i 0)

theorem bit2_end (i : grid2.Coords) : k2_cond3 i = 1#1 ↔ (i 0).val = 17 :=
  (by decide : ∀ n : Fin 18, bit (Scalar.cmpi .eq (BitVec.ofNat 32 n.val) 17#32) ↔ n.val = 17) (i 0)

section Body

variable (d : Dev nD) (i : grid2.Coords)
  (a1 : Memref sig .tc .vmem S1x4096 .f32) (h1 : a1.IsWhole) (a2 : Memref sig .tc .vmem S512x4096 .f32) (h2 : a2.IsWhole)
  (a3 : Memref sig .tc .vmem S1x1 .f32) (h3 : a3.IsWhole) (a4 : Memref sig .tc .smem S1 .f32) (h4 : a4.IsWhole)

/-- The scan's weakest precondition at this point. -/
abbrev wpScan (Q : PUnit → sProp 𝕄) : sProp 𝕄 :=
  wp frame (wpE (defs₀ (F := F)) 𝒱₀ (T d) none) Set.univ (cc2__tc_scan_body i a1 h1 a2 h2 a3 h3 a4 h4) Q

/-- A load of the word of scalar memory continues at the word. -/
theorem word_load {α : Type} (m : Memref sig .tc .smem S1 .f32) {hl : m.view.LoadsAt (Rect.unit (s := S1) ![0] S1.size inb_S1_S1_0).toLoadRect}
    {k : ((Rect.unit (s := S1) ![0] S1.size inb_S1_S1_0).toLoadRect.shape.Idx → Elt F .f32) → Prog (TpuEff nD τ sig (Elt F) Λ₀ .tc) α} (g : F .f32) (Q : α → sProp 𝕄) :
    (own d m (fun _ => g) : sProp 𝕄)
      ⊢ iprop((own d m (fun _ => g) -∗ wp frame (wpE (defs₀ (F := F)) 𝒱₀ (T d) none) Set.univ (k fun _ => g) Q)
        -∗ wp frame (wpE (defs₀ (F := F)) 𝒱₀ (T d) none) Set.univ (.op (.load m (Rect.unit (s := S1) ![0] S1.size inb_S1_S1_0).toLoadRect hl) k) Q) :=
  owns_load d m (Rect.unit (s := S1) ![0] S1.size inb_S1_S1_0) (hl := hl) (k := k) (fun _ => g) Q

/-- At the first point the block's least distance starts the running one. -/
theorem scan_first (hi : (i 0).val = 0) (E : Vec F S1x4096 .f32) (M : Vec F S512x4096 .f32) (g : F .f32) (Q : PUnit → sProp 𝕄) :
    iprop(own d a1 E ∗ own d a2 M ∗ own d a4 (fun _ => g) ∗ (iprop(own d a1 E ∗ own d a2 M ∗ own d a4 (fun _ => k2_pay1 M E)) -∗ Q ⟨⟩))
      ⊢ wpScan d i a1 h1 a2 h2 a3 h3 a4 h4 Q := by
  have c1 := (bit2_zero i).2 hi
  have c2 := mt (bit2_pos i).1 (by omega)
  have c3 := mt (bit2_end i).1 (by omega)
  unfold wpScan
  rw [cc2__tc_scan_body_eq_skeleton]; unfold cc2__tc_scan_body_skel
  simp only [dif_pos c1, dif_neg c2, dif_neg c3, smemLoad, smemLoadElt,
    Prog.lift, Prog.bind_op, Prog.bind_ret, Prog.pure_eq_ret, Prog.bind_assoc]
  iintro ⟨H1, H2, H4, Hk⟩
  iapply (owns_load_whole d a2 zero2 _ M _) $$ H2; iintro H2
  iapply (owns_load_whole d a1 zero2 _ E _) $$ H1; iintro H1
  iapply (word_load d a4 g _) $$ H4; iintro H4
  iapply (owns_store_whole d a4 _ (fun _ => g) _) $$ H4; iintro H4
  rw [wp_ret]; imodintro
  iapply Hk
  isplitl [H1]; · iexact H1
  isplitl [H2]; · iexact H2
  iexact H4

/-- At a point between the first and the last the block's least distance joins the running one. -/
theorem scan_next (hi : 0 < (i 0).val) (hi' : (i 0).val < 17) (E : Vec F S1x4096 .f32) (M : Vec F S512x4096 .f32) (g : F .f32) (Q : PUnit → sProp 𝕄) :
    iprop(own d a1 E ∗ own d a2 M ∗ own d a4 (fun _ => g) ∗ (iprop(own d a1 E ∗ own d a2 M ∗ own d a4 (fun _ => k2_pay2 M E g)) -∗ Q ⟨⟩))
      ⊢ wpScan d i a1 h1 a2 h2 a3 h3 a4 h4 Q := by
  have c1 := mt (bit2_zero i).1 (by omega)
  have c2 := (bit2_pos i).2 hi
  have c3 := mt (bit2_end i).1 (by omega)
  unfold wpScan
  rw [cc2__tc_scan_body_eq_skeleton]; unfold cc2__tc_scan_body_skel
  simp only [dif_neg c1, dif_pos c2, dif_neg c3, smemLoad, smemLoadElt,
    Prog.lift, Prog.bind_op, Prog.bind_ret, Prog.pure_eq_ret, Prog.bind_assoc]
  iintro ⟨H1, H2, H4, Hk⟩
  iapply (owns_load_whole d a2 zero2 _ M _) $$ H2; iintro H2
  iapply (owns_load_whole d a1 zero2 _ E _) $$ H1; iintro H1
  iapply (word_load d a4 g _) $$ H4; iintro H4
  iapply (word_load d a4 g _) $$ H4; iintro H4
  iapply (owns_store_whole d a4 _ (fun _ => g) _) $$ H4; iintro H4
  rw [wp_ret]; imodintro
  iapply Hk
  isplitl [H1]; · iexact H1
  isplitl [H2]; · iexact H2
  iexact H4

/-- At the last point the last block's least distance joins the running one, which is written out. -/
theorem scan_out (hi : (i 0).val = 17) (E : Vec F S1x4096 .f32) (M : Vec F S512x4096 .f32) (g : F .f32) (o : Vec F S1x1 .f32) (Q : PUnit → sProp 𝕄) :
    iprop(own d a1 E ∗ own d a2 M ∗ own d a3 o ∗ own d a4 (fun _ => g)
        ∗ (iprop(own d a1 E ∗ own d a2 M ∗ own d a3 (k2_pay3 (k2_pay2 M E g)) ∗ own d a4 (fun _ => k2_pay2 M E g)) -∗ Q ⟨⟩))
      ⊢ wpScan d i a1 h1 a2 h2 a3 h3 a4 h4 Q := by
  have c1 := mt (bit2_zero i).1 (by omega)
  have c2 := (bit2_pos i).2 (by omega)
  have c3 := (bit2_end i).2 hi
  unfold wpScan
  rw [cc2__tc_scan_body_eq_skeleton]; unfold cc2__tc_scan_body_skel
  simp only [dif_neg c1, dif_pos c2, dif_pos c3, smemLoad, smemLoadElt,
    Prog.lift, Prog.bind_op, Prog.bind_ret, Prog.pure_eq_ret, Prog.bind_assoc]
  iintro ⟨H1, H2, H3, H4, Hk⟩
  iapply (owns_load_whole d a2 zero2 _ M _) $$ H2; iintro H2
  iapply (owns_load_whole d a1 zero2 _ E _) $$ H1; iintro H1
  iapply (word_load d a4 g _) $$ H4; iintro H4
  iapply (word_load d a4 g _) $$ H4; iintro H4
  iapply (owns_store_whole d a4 _ (fun _ => g) _) $$ H4; iintro H4
  iapply (word_load d a4 (k2_pay2 M E g) _) $$ [H4]; · iexact H4
  iintro H4
  iapply (owns_load_whole d a3 zero2 _ o _) $$ H3; iintro H3
  iapply (owns_store_whole d a3 _ o _) $$ H3; iintro H3
  rw [wp_ret]; imodintro
  iapply Hk
  isplitl [H1]; · iexact H1
  isplitl [H2]; · iexact H2
  isplitl [H3]; · iexact H3
  iexact H4

end Body

theorem scan_start_eq (E : Vec F S1x4096 .f32) (M : Vec F S16384x4096 .f32) (t : ℕ) (h : t = 0) :
    k2_pay1 (scanBlk M t) E = scanAt E M t := by rw [h]; rfl

theorem scan_step_eq (E : Vec F S1x4096 .f32) (M : Vec F S16384x4096 .f32) (t : ℕ) (h : 0 < t) {g : F .f32} (hg : g = scanAt E M (t - 1)) :
    k2_pay2 (scanBlk M t) E g = scanAt E M t := by
  obtain ⟨n, rfl⟩ : ∃ n, t = n + 1 := ⟨t - 1, by omega⟩
  rw [hg]; rfl

section Region

variable (E : Dev nD → Vec F S1x4096 .f32) (M : Dev nD → Vec F S16384x4096 .f32) (o : Dev nD → Vec F S1x1 .f32)

/-- The scoped buffers of the other pipeline. -/
abbrev rest2 (c : Dev nD) : sProp 𝕄 := iprop(anyBuf (F := F) c cc0_stg0_0 ∗ anyBuf (F := F) c cc0_stg1_0 ∗ anyBuf (F := F) c cc0_stg1_1 ∗ anyBuf (F := F) c cc0_stg2_0 ∗ anyBuf (F := F) c cc0_stg2_1 ∗ anyBuf (F := F) c cc0_stg3_0 ∗ anyBuf (F := F) c cc0_stg4_0 ∗ anyBuf (F := F) c cc0_scratch0 ∗ anyBuf (F := F) c cc0_scratch1 ∗ anyBuf (F := F) c cc0_scratch2 ∗ anyBuf (F := F) c cc0_scratch3)

/-- Before point `n` the word of scalar memory holds the least distance over the blocks so far. -/
def phi2 (c : Dev nD) (n : ℕ) : sProp 𝕄 :=
  iprop((∃ g, ⌜1 ≤ n → g = scanAt (E c) (M c) (n - 1)⌝ ∗ own c (Memref.whole cc2_scratch0) (fun _ => g)) ∗ rest2 (F := F) c)

/-- The scan's proof data. -/
def dat2 (c : Dev nD) : Dat τ (Elt F) (HIx 1) ℕ UU ℕ cfg2 c where
  A w := match w with
    | ⟨0, _⟩ => E c
    | ⟨1, _⟩ => M c
    | ⟨2, _⟩ => o c
  after w t := match w with
    | ⟨0, _⟩ => E c
    | ⟨1, _⟩ => scanBlk (M c) t.val
    | ⟨2, _⟩ => scanOut (E c) (M c)
  Φ t := phi2 E M c t.val
  q _ := fullShare
  owed _ := (K (F := F)).Otc c 1
  recorded _ := below (F := F) c 1

theorem before2_0 (c : Dev nD) (t : Fin cfg2.N) (d) : (dat2 E M o c).before 0 t d = E c :=
  ((dat2 E M o c).before_in_eq_fetched 0 rfl (fun _ => rfl) (fun _ _ _ => rfl) (fun t => (read2_0 t (E c)).symm) t d).trans (read2_0 t (E c))

theorem before2_1 (c : Dev nD) (t : Fin cfg2.N) (d) : (dat2 E M o c).before 1 t d = scanBlk (M c) t.val :=
  ((dat2 E M o c).before_in_eq_fetched 1 rfl (fun _ => rfl) (fun _ _ _ => rfl) (fun t => (read2_1 t (M c)).symm) t d).trans (read2_1 t (M c))

theorem idle2_2 (t : Fin cfg2.N) (ht : t.val < 17) : cfg2.idle 2 (cfg2.grid.coords t) = true :=
  (by decide : ∀ t : Fin grid2.N, t.val < 17 → idle2 2 (grid2.coords t) = true) t ht

theorem live2_2 (t : Fin cfg2.N) (ht : ¬ t.val < 17) : cfg2.idle 2 (cfg2.grid.coords t) = false :=
  (by decide : ∀ t : Fin grid2.N, ¬ t.val < 17 → idle2 2 (grid2.coords t) = false) t ht

theorem noflush2_2 (t : Fin cfg2.N) (ht : t.val < 17) : (cfg2.win 2).flush t = false := by
  rw [Bool.eq_false_iff]; intro h; have := (flush2_2 t).1 h; omega

theorem leaves2_2 (c : Dev nD) (t : Fin cfg2.N) (ht : t.val < 17) :
    (dat2 E M o c).leavesExact 2 t = iprop(∃ d, owns (c : Thread nD τ) ((cfg2.win 2).stage (cfg2.slots t 2)) fullShare ((dat2 E M o c).before 2 t d)) :=
  (dat2 E M o c).leavesExact_idle 2 t (idle2_2 t ht) (noflush2_2 t ht)

theorem leaves2_2_last (c : Dev nD) (t : Fin cfg2.N) (ht : ¬ t.val < 17) :
    (dat2 E M o c).leavesExact 2 t = owns (c : Thread nD τ) ((cfg2.win 2).stage (cfg2.slots t 2)) fullShare (scanOut (E c) (M c)) := by
  unfold Dat.leavesExact
  rw [live2_2 t ht]
  rfl

/-- What a point leaves, put together. -/
theorem assemble2 (c : Dev nD) (t : Fin cfg2.N) (g : F .f32) (hg : g = scanAt (E c) (M c) t.val) :
    iprop(own c (Memref.whole cc2_scratch0) (fun _ => g) ∗ rest2 (F := F) c ∗ (dat2 E M o c).owesAt none t.castSucc
        ∗ own c (st2_0 t) (E c) ∗ own c (st2_1 t) (scanBlk (M c) t.val) ∗ (dat2 E M o c).leavesExact 2 t)
      ⊢ iprop(phi2 E M c (t.val + 1) ∗ (dat2 E M o c).owesAt none t.castSucc
        ∗ (dat2 E M o c).leavesExact 0 t ∗ (dat2 E M o c).leavesExact 1 t ∗ (dat2 E M o c).leavesExact 2 t) := by
  unfold phi2
  iintro ⟨HS, HR, HO, H0, H1, H2⟩
  isplitl [HS HR]
  · isplitl [HS]
    · iexists g; isplitr
      · ipureintro; exact fun _ => hg
      iexact HS
    iexact HR
  isplitl [HO]; · iexact HO
  isplitl [H0]; · iexact H0
  isplitl [H1]; · iexact H1
  iexact H2

/-- The result as the last point writes it. -/
theorem scan_last (c : Dev nD) (t : Fin cfg2.N) (h : t.val = 17) {g : F .f32} (hg : g = scanAt (E c) (M c) (t.val - 1)) :
    (owns (c : Thread nD τ) ((cfg2.win 2).stage (cfg2.slots t 2)) fullShare (scanOut (E c) (M c)) : sProp 𝕄)
      = own c (st2_2 t) (k2_pay3 (k2_pay2 (scanBlk (M c) t.val) (E c) g)) := by
  rw [scan_step_eq (E c) (M c) t.val (by omega) hg, h]; rfl

/-- The scan's body does at every point what its proof data says. -/
theorem body_obligation2 (c : Dev nD) : BodyObligation (dat2 E M o c) (defs₀ (F := F)) 𝒱₀ none Set.univ := fun t => by
  have hN : t.val < 18 := N_2 ▸ t.isLt
  have hc : ((grid2.coords t) 0).val = t.val := coords2_val t
  rw [bigSep_W2, bigSep_W2]
  rw [show (dat2 E M o c).Φ t.castSucc = phi2 E M c t.val from rfl, show (dat2 E M o c).Φ t.succ = phi2 E M c (t.val + 1) from rfl,
    show (dat2 E M o c).owesAt none t.succ = (dat2 E M o c).owesAt none t.castSucc from rfl]
  iintro ⟨HΦ, Howes, ⟨%d0, H0⟩, ⟨%d1, H1⟩, H2⟩
  rw [before2_0, before2_1]
  unfold phi2
  icases HΦ with ⟨⟨%g, %hg, HS⟩, HR⟩
  rcases Nat.lt_or_ge t.val 17 with h17 | h17
  · ihave H2 := (Entails.of_eq (leaves2_2 E M o c t h17).symm) $$ H2
    rcases Nat.eq_zero_or_pos t.val with h0 | h0
    · iapply (scan_first c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (Memref.whole cc2_scratch0) (Memref.isWhole_whole _) (hc.trans h0) _ _ g _)
      isplitl [H0]; · iexact H0
      isplitl [H1]; · iexact H1
      isplitl [HS]; · iexact HS
      iintro ⟨H0, H1, HS⟩
      iapply (assemble2 E M o c t _ (scan_start_eq (E c) (M c) t.val h0))
      isplitl [HS]; · iexact HS
      isplitl [HR]; · iexact HR
      isplitl [Howes]; · iexact Howes
      isplitl [H0]; · iexact H0
      isplitl [H1]; · iexact H1
      iexact H2
    · iapply (scan_next c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (Memref.whole cc2_scratch0) (Memref.isWhole_whole _) (by omega) (by omega) _ _ g _)
      isplitl [H0]; · iexact H0
      isplitl [H1]; · iexact H1
      isplitl [HS]; · iexact HS
      iintro ⟨H0, H1, HS⟩
      iapply (assemble2 E M o c t _ (scan_step_eq (E c) (M c) t.val h0 (hg h0)))
      isplitl [HS]; · iexact HS
      isplitl [HR]; · iexact HR
      isplitl [Howes]; · iexact Howes
      isplitl [H0]; · iexact H0
      isplitl [H1]; · iexact H1
      iexact H2
  icases H2 with ⟨%d2, H2⟩
  iapply (scan_out c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (Memref.whole cc2_scratch0) (Memref.isWhole_whole _) (by omega) _ _ g _ _)
  isplitl [H0]; · iexact H0
  isplitl [H1]; · iexact H1
  isplitl [H2]; · iexact H2
  isplitl [HS]; · iexact HS
  iintro ⟨H0, H1, H2, HS⟩
  ihave H2 := (Entails.of_eq ((leaves2_2_last E M o c t (by omega)).trans (scan_last E M c t (by omega) (hg (by omega)))).symm) $$ H2
  iapply (assemble2 E M o c t _ (scan_step_eq (E c) (M c) t.val (by omega) (hg (by omega))))
  isplitl [HS]; · iexact HS
  isplitl [HR]; · iexact HR
  isplitl [Howes]; · iexact Howes
  isplitl [H0]; · iexact H0
  isplitl [H1]; · iexact H1
  iexact H2

/-- After the last point the result's array holds the least distance. -/
theorem arr2_out (c : Dev nD) : (dat2 E M o c).arrAt 2 cfg2.N = scanOut (E c) (M c) := by
  refine (dat2 E M o c).arrAt_eq_of_cover 2 (scanOut (E c) (M c)) (fun t _ => (read2_2 t _).symm) fun i => ?_
  refine ⟨⟨17, by decide⟩, (flush2_2 _).2 rfl, ?_⟩
  refine Finset.mem_map.mpr ⟨(i : S1x1.Idx), Finset.mem_univ _, funext fun a => Fin.ext ?_⟩
  fin_cases a
  · show 0 * 1 + 1 * ((i : S1x1.Idx) 0).val = ((i : S1x1.Idx) 0).val; omega
  · show 0 * 1 + 1 * ((i : S1x1.Idx) 1).val = ((i : S1x1.Idx) 1).val; omega

end Region

end Cert.Proof.Sc

end
-- ==== Proof.Inner.lean ====
/-
  The inner loops of a subcore's task and its lane exchange: the two loops that accumulate eight rows' absolute
  differences over a staged chunk, and the store and gather that read the lanes of a vector in another order.
-/
module

public import proofs.«01_k».proof.Proof.Setup

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev encV : Memref sig .scVector .hbm S4096 .f32 := Memref.whole main_v2_scv
abbrev memV : Memref sig .scVector .hbm S16384x4096 .f32 := Memref.whole main_arg3_scv
abbrev outV : Memref sig .scVector .hbm S32x16 .f32 := Memref.whole main_v3_scv
abbrev eV : Memref sig .scVector .vmem S4096 .f32 := Memref.whole cc1_scratch0
abbrev b0V : Memref sig .scVector .vmem S8x4096 .f32 := Memref.whole cc1_scratch1
abbrev b1V : Memref sig .scVector .vmem S8x4096 .f32 := Memref.whole cc1_scratch2
abbrev mV : Memref sig .scVector .vmem S16 .f32 := Memref.whole cc1_scratch3
abbrev tV : Memref sig .scVector .vmem S16 .f32 := Memref.whole cc1_scratch4

abbrev cV (L : grid1.Coords) : Fin τ.nSC := (L 0).castLE hcore1
abbrev jV (L : grid1.Coords) : Fin τ.nSub := (L 1).castLE hsub1

/-! ## What a load at a trip's offset reads -/

theorem t2_lt (t : Fin k1_t2_loop.trips) : t.val < 256 := t.isLt
theorem t3_lt (t : Fin k1_t3_loop.trips) : t.val < 256 := t.isLt

/-- A load of sixteen words of the encoding at word `16 t`. -/
theorem readE (E : Vec F S4096 .f32) (off : Fin 1 → ℕ) (inb : ∀ a, off a + S16.size a ≤ S4096.size a) (t : ℕ) (h : off 0 = 16 * t) :
    (eV).view.readAt (Elt F) (Rect.unit (s := S4096) off S16.size inb).toLoadRect E = ldE E t := by
  funext j
  have hj : (j 0).val < 16 := (j 0).isLt
  have h0 : off 0 + 16 ≤ 4096 := inb 0
  rw [View.readAt_apply]
  show E _ = E _
  congr 1
  funext a
  match a with
  | ⟨0, _⟩ =>
    apply Fin.ext
    show off 0 + 1 * (j 0).val = (16 * t + (j 0).val) % 4096
    omega

/-- Where a load of sixteen words of row `r`, from word `16 t`, reads. -/
theorem rowIdx_eq (off : Fin 2 → ℕ) (inb : ∀ a, off a + S1x16.size a ≤ S8x4096.size a) (r : Fin 8) (t : ℕ)
    (h0 : off 0 = r.val) (h1 : off 1 = 16 * t) (j : S1x16.Idx) :
    (Rect.unit (s := S8x4096) off S1x16.size inb).toLoadRect.idx j
      = ix2 r ⟨(16 * t + (j 1).val) % 4096, Nat.mod_lt _ (by decide)⟩ := by
  have hj0 : (j 0).val < 1 := (j 0).isLt
  have hj : (j 1).val < 16 := (j 1).isLt
  have h2 : off 1 + 16 ≤ 4096 := inb 1
  funext a
  match a with
  | ⟨0, _⟩ =>
    apply Fin.ext
    show off 0 + 1 * (j 0).val = r.val
    omega
  | ⟨1, _⟩ =>
    apply Fin.ext
    show off 1 + 1 * (j 1).val = (16 * t + (j 1).val) % 4096
    omega

/-- A load of sixteen words of row `r` of the first chunk buffer. -/
theorem readRow0 (B : Vec F S8x4096 .f32) (off : Fin 2 → ℕ) (inb : ∀ a, off a + S1x16.size a ≤ S8x4096.size a) (r : Fin 8) (t : ℕ)
    (h0 : off 0 = r.val) (h1 : off 1 = 16 * t) :
    (b0V).view.readAt (Elt F) (Rect.unit (s := S8x4096) off S1x16.size inb).toLoadRect B = ldRow B r t := by
  funext j
  rw [View.readAt_apply, rowIdx_eq off inb r t h0 h1]
  rfl

/-- A load of sixteen words of row `r` of the second chunk buffer. -/
theorem readRow1 (B : Vec F S8x4096 .f32) (off : Fin 2 → ℕ) (inb : ∀ a, off a + S1x16.size a ≤ S8x4096.size a) (r : Fin 8) (t : ℕ)
    (h0 : off 0 = r.val) (h1 : off 1 = 16 * t) :
    (b1V).view.readAt (Elt F) (Rect.unit (s := S8x4096) off S1x16.size inb).toLoadRect B = ldRow B r t := by
  funext j
  rw [View.readAt_apply, rowIdx_eq off inb r t h0 h1]
  rfl

/-- The word `16 t` as the loops compute it. -/
theorem word16 (n : ℕ) (h : n < 256) :
    (Scalar.indexCast (Scalar.muli (Scf.iv 0#32 1#32 n) 16#32) : Index).toNat = 16 * n := by
  simp only [Scalar.indexCast, Scalar.muli, IntOp.muli, Scf.iv]
  simp [BitVec.toNat_mul, BitVec.toNat_add, BitVec.toNat_ofNat]
  omega

/-- The lanes a gather at the words `x` reads, the words being lanes' numbers. -/
theorem loadIdx_eq (v : Vec F S16 .f32) (x : IVec S16 32) (h : ∀ a y, ((![x] : Fin 1 → IVec S16 32) a y).toNat < S16.size a) (k : Fin 16)
    (hx : ∀ j : Fin 16, (x (ix1 j)).toNat = (j.val ^^^ k.val) % 16) :
    loadIdx v ![x] h = lx k v := by
  funext j
  unfold loadIdx lx
  congr 1
  funext a
  match a with
  | ⟨0, _⟩ =>
    apply Fin.ext
    show (x j).toNat = ((j 0).val ^^^ k.val) % 16
    rw [← hx (j 0)]
    congr 1
    exact congrArg x (eq_ix1 j)

/-- The lanes' numbers, each xored with `k`. -/
def xw (k : BitVec 32) : IVec S16 32 := xori (iota .scVector S16 32 [0] iota_S16_d0_w32_scVector) (broadcast S16 k)

/-- The word at lane `j` is the number `j xor k`. -/
theorem xw_eq (k : Fin 16) (j : Fin 16) : (xw (BitVec.ofNat 32 k.val) (ix1 j)).toNat = (j.val ^^^ k.val) % 16 := by
  show (BitVec.ofNat 32 (0 * 16 + j.val) ^^^ BitVec.ofNat 32 k.val).toNat = _
  revert k j
  decide

/-- Every word of it numbers a lane. -/
theorem xw_inb (k : Fin 16) (a : Fin 1) (y : S16.Idx) :
    ((![xw (BitVec.ofNat 32 k.val)] : Fin 1 → IVec S16 32) a y).toNat < S16.size a := by
  match a with
  | ⟨0, _⟩ =>
    show (xw (BitVec.ofNat 32 k.val) y).toNat < 16
    have h : (xw (BitVec.ofNat 32 k.val) y).toNat = _ := (congrArg (fun z => (xw (BitVec.ofNat 32 k.val) z).toNat) (eq_ix1 y)).trans (xw_eq k (y 0))
    rw [h]
    exact Nat.mod_lt _ (by decide)

section Loops

variable (d : Dev nD) (L : grid1.Coords)

abbrev Epts (E : Vec F S4096 .f32) : sProp 𝕄 := (eV).view.loc (V d (cV L) (jV L)) ↦{fullShare} E
abbrev B0pts (B : Vec F S8x4096 .f32) : sProp 𝕄 := (b0V).view.loc (V d (cV L) (jV L)) ↦{fullShare} B
abbrev B1pts (B : Vec F S8x4096 .f32) : sProp 𝕄 := (b1V).view.loc (V d (cV L) (jV L)) ↦{fullShare} B
abbrev Tpts (f : Vec F S16 .f32) : sProp 𝕄 := (tV).view.loc (V d (cV L) (jV L)) ↦{fullShare} f

abbrev rT : Rect S16 := Rect.unit (s := S16) ![0] S16.size inb_S16_S16_0

theorem rT_emb (i : S16.Idx) : (rT.idx i : S16.Idx) = i := by
  funext a
  match a with
  | ⟨0, _⟩ =>
    apply Fin.ext
    show 0 + 1 * (i 0).val = (i 0).val
    omega

/-- A store over the whole lane scratch leaves the stored vector. -/
theorem write_tV (f pay : Vec F S16 .f32) : ((tV).access rT).write (Elt F) f pay Finset.univ = pay := by
  funext i
  have h := View.write_emb_of_mem (Val := Elt F) (v := (tV).access rT) f pay (Finset.mem_univ i)
  rw [show ((tV).access rT).emb i = i from rT_emb i] at h
  exact h

/-- A read of the whole lane scratch is its contents. -/
theorem read_tV (f : Vec F S16 .f32) : ((tV).access (.whole S16)).read (Elt F) f = f := by
  funext i
  show f ((Rect.whole S16).idx i) = f i
  congr 1
  funext a
  match a with
  | ⟨0, _⟩ =>
    apply Fin.ext
    show 0 + 1 * (i 0).val = (i 0).val
    omega

/-- The check, the store of `pay` over the whole lane scratch and the gather of its lanes at `j xor k`, in one. -/
theorem gather_step (k : Fin 16) {P : Prop} {dec : Decidable P} (hP : P) (x : IVec S16 32) (hx : x = xw (BitVec.ofNat 32 k.val))
    (pay : FVec F S16 .f32) (f : Vec F S16 .f32) {hl : (tV).view.LoadsAt rT.toLoadRect} {hs : ((tV).access rT).Stores Finset.univ}
    {hm : (Finset.univ : Finset rT.shape.Idx) = Finset.univ ∨ ∀ a, rT.stride a = 1}
    {inb : PLift P → ∀ a y, ((![x] : Fin 1 → IVec S16 32) a y).toNat < S16.size a} {hl' : (tV).view.Loads} {α : Type}
    {Kc : PLift P → Vec F S16 .f32 → Prog (TpuEff nD τ sig (Elt F) Λ₀ (.scVector (cV L) (jV L))) α} {Q : α → sProp 𝕄} :
    Tpts d L f ⊢ iprop((Tpts d L pay -∗ wp frame (wpE (defs₀ (F := F)) 𝒱₀ (V d (cV L) (jV L)) none) Set.univ (Kc ⟨hP⟩ (lx k pay)) Q)
      -∗ wp frame (wpE (defs₀ (F := F)) 𝒱₀ (V d (cV L) (jV L)) none) Set.univ
          (.op (.assume P dec) fun h => .op (.load tV rT.toLoadRect hl) fun _ => .op (.store tV rT pay Finset.univ hs hm) fun _ =>
            SparseCore.vectorLoadIdx tV ![x] (inb h) hl' >>= Kc h) Q) := by
  subst hx
  iintro HT Hk
  iapply (wp_assume 𝒱₀ (V d (cV L) (jV L)) none Set.univ hP)
  iapply (wp_load 𝒱₀ (V d (cV L) (jV L)) none Set.univ (m := tV) (r := rT.toLoadRect) (S := Finset.univ) (f := f) (Finset.subset_univ _)) $$ HT
  iintro HT
  ihave HT2 := (Entails.of_eq (show (Tpts d L f : sProp 𝕄) = (((tV).access rT).loc (V d (cV L) (jV L)) ↦{fullShare} f) from rfl)) $$ HT
  iapply (wp_store 𝒱₀ (V d (cV L) (jV L)) none Set.univ (m := tV) (r := rT) (S := Finset.univ) (f := f) (Finset.subset_univ _)) $$ HT2
  iintro HT
  ihave HT' := (Entails.of_eq (show (((tV).access rT).loc (V d (cV L) (jV L)) ↦{fullShare} ((tV).access rT).write (Elt F) f pay Finset.univ : sProp 𝕄)
      = (((tV).access (.whole S16)).loc (V d (cV L) (jV L)) ↦{fullShare} pay) from by rw [write_tV])) $$ HT
  iapply (SparseCore.wp_vectorLoadIdx 𝒱₀ (V d (cV L) (jV L)) none Set.univ (base := tV) (S := Finset.univ) (f := pay) (Finset.subset_univ _)) $$ HT'
  iintro HT
  rw [show (((tV).access (.whole S16)).read (Elt F) pay) = pay from read_tV pay, loadIdx_eq pay _ _ k (fun j => xw_eq k j)]
  iapply Hk
  iexact HT

set_option maxHeartbeats 4000000 in
/-- One step of the loop over the first buffer: the eight rows' sums move from `t` steps to `t + 1`. -/
theorem t2_step (E : Vec F S4096 .f32) (B : Vec F S8x4096 .f32) (c1 c2 : BitVec 32) (k1 : Fin k1_t1_loop.trips) (t : Fin k1_t2_loop.trips) :
    iprop(Epts d L E ∗ B0pts d L B)
      ⊢ wp frame (wpE (defs₀ (F := F)) 𝒱₀ (V d (cV L) (jV L)) none) Set.univ
          (k1_t2_body L encV (Memref.isWhole_whole _) memV (Memref.isWhole_whole _) outV (Memref.isWhole_whole _) eV (Memref.isWhole_whole _)
            b0V (Memref.isWhole_whole _) b1V (Memref.isWhole_whole _) mV (Memref.isWhole_whole _) tV (Memref.isWhole_whole _)
            cc1_scratch5 cc1_scratch6 cc1_scratch7 cc1_scoped0 c1 c2 k1 t (accs B E t.val))
          fun acc => iprop(⌜acc = accs B E (t.val + 1)⌝ ∗ Epts d L E ∗ B0pts d L B) := by
  unfold k1_t2_body
  simp only [k1_part1_eq_skeleton]; unfold k1_part1_skel
  simp only [Prog.lift, Prog.bind_op, Prog.bind_ret, Prog.pure_eq_ret, Prog.bind_assoc]
  iintro ⟨HE, HB⟩
  sl_exec
  sl_step
  isplitr
  · ipureintro
    have hw := word16 t.val (t2_lt t)
    rw [readE E (k1_off4 t) _ t.val hw, readRow0 B (k1_off5 t) _ 0 t.val rfl hw, readRow0 B (k1_off6 t) _ 1 t.val rfl hw,
      readRow0 B (k1_off7 t) _ 2 t.val rfl hw, readRow0 B (k1_off8 t) _ 3 t.val rfl hw, readRow0 B (k1_off9 t) _ 4 t.val rfl hw,
      readRow0 B (k1_off10 t) _ 5 t.val rfl hw, readRow0 B (k1_off11 t) _ 6 t.val rfl hw, readRow0 B (k1_off12 t) _ 7 t.val rfl hw]
    rfl
  · isplitl [HE]
    · iexact HE
    · iexact HB

set_option maxHeartbeats 4000000 in
/-- One step of the loop over the second buffer: the eight rows' sums move from `t` steps to `t + 1`. -/
theorem t3_step (E : Vec F S4096 .f32) (B : Vec F S8x4096 .f32) (t : Fin k1_t3_loop.trips) :
    iprop(Epts d L E ∗ B1pts d L B)
      ⊢ wp frame (wpE (defs₀ (F := F)) 𝒱₀ (V d (cV L) (jV L)) none) Set.univ
          (k1_t3_body L encV (Memref.isWhole_whole _) memV (Memref.isWhole_whole _) outV (Memref.isWhole_whole _) eV (Memref.isWhole_whole _)
            b0V (Memref.isWhole_whole _) b1V (Memref.isWhole_whole _) mV (Memref.isWhole_whole _) tV (Memref.isWhole_whole _)
            cc1_scratch5 cc1_scratch6 cc1_scratch7 cc1_scoped0 t (accs B E t.val))
          fun acc => iprop(⌜acc = accs B E (t.val + 1)⌝ ∗ Epts d L E ∗ B1pts d L B) := by
  unfold k1_t3_body
  simp only [k1_part2_eq_skeleton]; unfold k1_part2_skel
  simp only [Prog.lift, Prog.bind_op, Prog.bind_ret, Prog.pure_eq_ret, Prog.bind_assoc]
  iintro ⟨HE, HB⟩
  sl_exec
  sl_step
  isplitr
  · ipureintro
    have hw := word16 t.val (t3_lt t)
    rw [readE E (k1_off15 t) _ t.val hw, readRow1 B (k1_off16 t) _ 0 t.val rfl hw, readRow1 B (k1_off17 t) _ 1 t.val rfl hw,
      readRow1 B (k1_off18 t) _ 2 t.val rfl hw, readRow1 B (k1_off19 t) _ 3 t.val rfl hw, readRow1 B (k1_off20 t) _ 4 t.val rfl hw,
      readRow1 B (k1_off21 t) _ 5 t.val rfl hw, readRow1 B (k1_off22 t) _ 6 t.val rfl hw, readRow1 B (k1_off23 t) _ 7 t.val rfl hw]
    rfl
  · isplitl [HE]
    · iexact HE
    · iexact HB

end Loops

end Cert.Proof.Sc
-- ==== Proof.Copies.lean ====
/-
  The copies that stage chunks of the table in the two chunk buffers: the rule for starting one and the rule for
  waiting for one, at any offset.
-/
module

public import proofs.«01_k».proof.Proof.Inner

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Copies

variable (d : Dev nD) (L : grid1.Coords)

abbrev thr : Thread nD τ := V d (cV L) (jV L)

abbrev Mpts (q : PosShare TreeShare) (M : Vec F S16384x4096 .f32) : sProp 𝕄 := (memV).view.loc (thr d L) ↦{q} M

abbrev s0cell : GSem nD τ sig := (thr d L, .dma cc1_scratch6.sem)
abbrev s1cell : GSem nD τ sig := (thr d L, .dma cc1_scratch7.sem)

/-- A chunk in flight to the first buffer: the copy delivers the chunk from row `o` and the rows it read; the rest of
    the table's share is kept beside it. -/
def F0 (q : PosShare TreeShare) (M : Vec F S16384x4096 .f32) (o : ℕ) : sProp 𝕄 :=
  iprop(∃ S : Finset (Idx ((memV).view.loc (thr d L))),
    Transfers.Flight countersEmb (thr d L) (.dma cc1_scratch6.sem) (default : HIx 1) (b0V).view.dmaCredit
      iprop(B0pts d L (chunk M o) ∗ ((memV).view.loc (thr d L) ↦[S]{q} M))
    ∗ ((memV).view.loc (thr d L) ↦[Finset.univ \ S]{q} M))

/-- A chunk in flight to the second buffer. -/
def F1 (q : PosShare TreeShare) (M : Vec F S16384x4096 .f32) (o : ℕ) : sProp 𝕄 :=
  iprop(∃ S : Finset (Idx ((memV).view.loc (thr d L))),
    Transfers.Flight countersEmb (thr d L) (.dma cc1_scratch7.sem) (default : HIx 1) (b1V).view.dmaCredit
      iprop(B1pts d L (chunk M o) ∗ ((memV).view.loc (thr d L) ↦[S]{q} M))
    ∗ ((memV).view.loc (thr d L) ↦[Finset.univ \ S]{q} M))

/-- What a copy of eight rows from row `off 0` reads. -/
theorem read_rows (M : Vec F S16384x4096 .f32) (off : Fin 2 → ℕ) (inb : ∀ a, off a + S8x4096.size a ≤ S16384x4096.size a)
    (h1 : off 1 = 0) :
    ((memV).slice (Rect.unit (s := S16384x4096) off S8x4096.size inb) (fun _ => rfl)).view.read (Elt F) M = chunk M (off 0) := by
  funext j
  show M ((Rect.unit (s := S16384x4096) off S8x4096.size inb).idx j) = M _
  have h0 : off 0 + 8 ≤ 16384 := inb 0
  have hj0 : (j 0).val < 8 := (j 0).isLt
  congr 1
  funext a
  match a with
  | ⟨0, _⟩ =>
    apply Fin.ext
    show off 0 + 1 * (j 0).val = (off 0 + (j 0).val) % 16384
    omega
  | ⟨1, _⟩ =>
    apply Fin.ext
    show off 1 + 1 * (j 1).val = (j 1).val
    omega

/-- Starting a copy of eight rows into the first buffer. -/
theorem issue0 (q : PosShare TreeShare) (M : Vec F S16384x4096 .f32) (B : Vec F S8x4096 .f32) (off : Fin 2 → ℕ)
    (inb : ∀ a, off a + S8x4096.size a ≤ S16384x4096.size a) (o : ℕ) (h0 : off 0 = o) (h1 : off 1 = 0)
    {hsrc : ((memV).slice (Rect.unit (s := S16384x4096) off S8x4096.size inb) (fun _ => rfl)).view.WordExact}
    {hdst : (b0V).view.WordExact} {hsem : (DmaTarget.here b0V : DmaTarget nD τ sig (.scVector (cV L) (jV L)) .vmem S8x4096 .f32).Typed .hbm (.dma cc1_scratch6.sem)} {α : Type}
    {k : PUnit → Prog (TpuEff nD τ sig (Elt F) Λ₀ (.scVector (cV L) (jV L))) α} {Q : α → sProp 𝕄} :
    iprop(B0pts d L B ∗ Mpts d L q M ∗ semVal (s0cell d L) 0)
      ⊢ iprop((F0 d L q M o -∗ wp frame (wpE (defs₀ (F := F)) 𝒱₀ (V d (cV L) (jV L)) none) Set.univ (k ⟨⟩) Q)
        -∗ wp frame (wpE (defs₀ (F := F)) 𝒱₀ (V d (cV L) (jV L)) none) Set.univ
          (.op (.enqueueDma ((memV).slice (Rect.unit (s := S16384x4096) off S8x4096.size inb) (fun _ => rfl)) (.here b0V)
            (.dma cc1_scratch6.sem) hsrc hdst hsem) k) Q) := by
  subst h0
  iintro ⟨HB, HM, Hs⟩ Hk
  ihave HM2 := (pointsTo_split_subset (q := q) (f := M) (S := Finset.univ)
    (Finset.subset_univ ((memV).slice (Rect.unit (s := S16384x4096) off S8x4096.size inb) (fun _ => rfl)).view.set)).1 $$ HM
  icases HM2 with ⟨HMs, HMr⟩
  iapply (Transfers.wp_dmaLocal countersEmb 𝒱₀ (thr d L) none (src := (memV).slice (Rect.unit (s := S16384x4096) off S8x4096.size inb) (fun _ => rfl))
    (dst := b0V) (sm := .dma cc1_scratch6.sem) (fs := M) (fd := B) (Sd := Finset.univ) (q := q)
    (default : HIx 1) (b0V).view.dmaCredit rfl (by decide) (Finset.subset_univ _)) $$ [HB HMs Hs]
  · isplitl [HMs]; · iexact HMs
    isplitl [HB]; · iexact HB
    iexact Hs
  iintro Hf
  iapply Hk
  unfold F0
  iexists _
  isplitl [Hf]
  · iapply (Transfers.Flight_mono countersEmb (thr d L) (Entails.of_eq (by rw [View.write_whole_univ, read_rows M off inb h1]))) $$ Hf
  · iexact HMr

/-- Waiting for the copy into the first buffer: the chunk has landed, and the table's share is whole again. -/
theorem wait0 (q : PosShare TreeShare) (M : Vec F S16384x4096 .f32) (o : ℕ) (O : CellTallies nD τ sig (HIx 1)) (W : Waits sig (HIx 1))
    {srcw : Memref sig Kind.scVector .hbm S8x4096 .f32} {hsrc : srcw.view.WordExact} {hdst : (b0V).view.WordExact} {α : Type}
    {k : PUnit → Prog (TpuEff nD τ sig (Elt F) Λ₀ (.scVector (cV L) (jV L))) α} {Q : α → sProp 𝕄} :
    iprop(F0 d L q M o ∗ owes (thr d L) O W ∗ Transfers.MayWaits (thr d L) (default : HIx 1) O)
      ⊢ iprop((iprop(B0pts d L (chunk M o) ∗ Mpts d L q M ∗ semVal (s0cell d L) 0
            ∗ owes (thr d L) O (insert (SemLoc.dma cc1_scratch6.sem, (default : HIx 1)) W))
          -∗ wp frame (wpE (defs₀ (F := F)) 𝒱₀ (V d (cV L) (jV L)) none) Set.univ (k ⟨⟩) Q)
        -∗ wp frame (wpE (defs₀ (F := F)) 𝒱₀ (V d (cV L) (jV L)) none) Set.univ
          (.op (.waitDma2 cc1_scratch6.sem srcw b0V hsrc hdst) k) Q) := by
  unfold F0
  iintro ⟨⟨%S, Hf, HMr⟩, HO, Hmw⟩ Hk
  iapply (Transfers.wp_waitLocalO countersEmb 𝒱₀ (thr d L) none (default : HIx 1) (rfl : (b0V).view.dmaCredit = _)) $$ [Hf HO Hmw]
  · isplitl [Hf]; · iexact Hf
    isplitl [HO]; · iexact HO
    iapply (Transfers.MayWaits.elim (SemLoc.dma cc1_scratch6.sem)) $$ Hmw
  iintro ⟨⟨HB, HMs⟩, Hs, HO⟩
  iapply Hk
  isplitl [HB]; · iexact HB
  isplitl [HMs HMr]
  · iapply (pointsTo_split_subset (q := q) (f := M) (S := Finset.univ) (Finset.subset_univ S)).2
    isplitl [HMs]
    · iexact HMs
    · iexact HMr
  isplitl [Hs]; · iexact Hs
  iexact HO

/-- Starting a copy of eight rows into the second buffer. -/
theorem issue1 (q : PosShare TreeShare) (M : Vec F S16384x4096 .f32) (B : Vec F S8x4096 .f32) (off : Fin 2 → ℕ)
    (inb : ∀ a, off a + S8x4096.size a ≤ S16384x4096.size a) (o : ℕ) (h0 : off 0 = o) (h1 : off 1 = 0)
    {hsrc : ((memV).slice (Rect.unit (s := S16384x4096) off S8x4096.size inb) (fun _ => rfl)).view.WordExact}
    {hdst : (b1V).view.WordExact} {hsem : (DmaTarget.here b1V : DmaTarget nD τ sig (.scVector (cV L) (jV L)) .vmem S8x4096 .f32).Typed .hbm (.dma cc1_scratch7.sem)} {α : Type}
    {k : PUnit → Prog (TpuEff nD τ sig (Elt F) Λ₀ (.scVector (cV L) (jV L))) α} {Q : α → sProp 𝕄} :
    iprop(B1pts d L B ∗ Mpts d L q M ∗ semVal (s1cell d L) 0)
      ⊢ iprop((F1 d L q M o -∗ wp frame (wpE (defs₀ (F := F)) 𝒱₀ (V d (cV L) (jV L)) none) Set.univ (k ⟨⟩) Q)
        -∗ wp frame (wpE (defs₀ (F := F)) 𝒱₀ (V d (cV L) (jV L)) none) Set.univ
          (.op (.enqueueDma ((memV).slice (Rect.unit (s := S16384x4096) off S8x4096.size inb) (fun _ => rfl)) (.here b1V)
            (.dma cc1_scratch7.sem) hsrc hdst hsem) k) Q) := by
  subst h0
  iintro ⟨HB, HM, Hs⟩ Hk
  ihave HM2 := (pointsTo_split_subset (q := q) (f := M) (S := Finset.univ)
    (Finset.subset_univ ((memV).slice (Rect.unit (s := S16384x4096) off S8x4096.size inb) (fun _ => rfl)).view.set)).1 $$ HM
  icases HM2 with ⟨HMs, HMr⟩
  iapply (Transfers.wp_dmaLocal countersEmb 𝒱₀ (thr d L) none (src := (memV).slice (Rect.unit (s := S16384x4096) off S8x4096.size inb) (fun _ => rfl))
    (dst := b1V) (sm := .dma cc1_scratch7.sem) (fs := M) (fd := B) (Sd := Finset.univ) (q := q)
    (default : HIx 1) (b1V).view.dmaCredit rfl (by decide) (Finset.subset_univ _)) $$ [HB HMs Hs]
  · isplitl [HMs]; · iexact HMs
    isplitl [HB]; · iexact HB
    iexact Hs
  iintro Hf
  iapply Hk
  unfold F1
  iexists _
  isplitl [Hf]
  · iapply (Transfers.Flight_mono countersEmb (thr d L) (Entails.of_eq (by rw [View.write_whole_univ, read_rows M off inb h1]))) $$ Hf
  · iexact HMr

/-- Waiting for the copy into the second buffer: the chunk has landed, and the table's share is whole again. -/
theorem wait1 (q : PosShare TreeShare) (M : Vec F S16384x4096 .f32) (o : ℕ) (O : CellTallies nD τ sig (HIx 1)) (W : Waits sig (HIx 1))
    {srcw : Memref sig Kind.scVector .hbm S8x4096 .f32} {hsrc : srcw.view.WordExact} {hdst : (b1V).view.WordExact} {α : Type}
    {k : PUnit → Prog (TpuEff nD τ sig (Elt F) Λ₀ (.scVector (cV L) (jV L))) α} {Q : α → sProp 𝕄} :
    iprop(F1 d L q M o ∗ owes (thr d L) O W ∗ Transfers.MayWaits (thr d L) (default : HIx 1) O)
      ⊢ iprop((iprop(B1pts d L (chunk M o) ∗ Mpts d L q M ∗ semVal (s1cell d L) 0
            ∗ owes (thr d L) O (insert (SemLoc.dma cc1_scratch7.sem, (default : HIx 1)) W))
          -∗ wp frame (wpE (defs₀ (F := F)) 𝒱₀ (V d (cV L) (jV L)) none) Set.univ (k ⟨⟩) Q)
        -∗ wp frame (wpE (defs₀ (F := F)) 𝒱₀ (V d (cV L) (jV L)) none) Set.univ
          (.op (.waitDma2 cc1_scratch7.sem srcw b1V hsrc hdst) k) Q) := by
  unfold F1
  iintro ⟨⟨%S, Hf, HMr⟩, HO, Hmw⟩ Hk
  iapply (Transfers.wp_waitLocalO countersEmb 𝒱₀ (thr d L) none (default : HIx 1) (rfl : (b1V).view.dmaCredit = _)) $$ [Hf HO Hmw]
  · isplitl [Hf]; · iexact Hf
    isplitl [HO]; · iexact HO
    iapply (Transfers.MayWaits.elim (SemLoc.dma cc1_scratch7.sem)) $$ Hmw
  iintro ⟨⟨HB, HMs⟩, Hs, HO⟩
  iapply Hk
  isplitl [HB]; · iexact HB
  isplitl [HMs HMr]
  · iapply (pointsTo_split_subset (q := q) (f := M) (S := Finset.univ) (Finset.subset_univ S)).2
    isplitl [HMs]
    · iexact HMs
    · iexact HMr
  isplitl [Hs]; · iexact Hs
  iexact HO

end Copies

end Cert.Proof.Sc
-- ==== Proof.Trip.lean ====
/-
  One trip of a subcore's main loop: two chunks waited for, accumulated, reduced over their lanes into the running
  minimum, and the next two chunks started.
-/
module

public import proofs.«01_k».proof.Proof.Copies

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The first row of a subcore's share of the table. -/
def base (L : grid1.Coords) : ℕ := (2 * (L 1).val + (L 0).val) * 224

section Offsets

variable (L : grid1.Coords)

theorem L0_lt : (L 0).val < 2 := (L 0).isLt
theorem L1_lt : (L 1).val < 16 := (L 1).isLt

theorem base_le : base L ≤ 6944 := by
  have h0 := L0_lt L
  have h1 := L1_lt L
  unfold base; omega

/-- The word of the first row, as the task computes it. -/
theorem word_base : (Scalar.muli (Scalar.addi (Scalar.muli (BitVec.ofNat 32 (L 1).val) 2#32) (BitVec.ofNat 32 (L 0).val)) 224#32).toNat = base L := by
  have h0 := L0_lt L
  have h1 := L1_lt L
  simp only [Scalar.muli, Scalar.addi, IntOp.muli, IntOp.addi, base]
  simp [BitVec.toNat_mul, BitVec.toNat_add, BitVec.toNat_ofNat]
  omega

theorem off1_0 : k1_off1 L 0 = base L := word_base L
theorem off3_0 : k1_off3 L 0 = base L := word_base L
theorem off2_0 : k1_off2 L 0 = base L + 8 := by
  have hb := base_le L
  show (Scalar.addi (Scalar.muli (Scalar.addi (Scalar.muli (BitVec.ofNat 32 (L 1).val) 2#32) (BitVec.ofNat 32 (L 0).val)) 224#32) 8#32).toNat = _
  rw [Scalar.addi, IntOp.addi, BitVec.toNat_add, word_base]
  simp
  omega

/-- The word added for the first buffer's next chunk. -/
theorem next0 : ∀ t : Fin 14, (Scalar.muli (Scalar.minsi (Scalar.addi (Scalar.addi (Scalar.muli 2#32 (Scf.iv 0#32 1#32 t.val)) 0#32) 2#32) 27#32) 8#32).toNat
    = 8 * min (2 * (t.val + 1)) 27 := by decide

/-- The word added for the second buffer's next chunk. -/
theorem next1 : ∀ t : Fin 14, (Scalar.muli (Scalar.minsi (Scalar.addi (Scalar.addi (Scalar.muli 2#32 (Scf.iv 0#32 1#32 t.val)) 1#32) 2#32) 27#32) 8#32).toNat
    = 8 * min (2 * (t.val + 1) + 1) 27 := by decide

/-- The chunk a trip starts next for the first buffer. -/
theorem off13_0 (t : Fin k1_t1_loop.trips) : k1_off13 L t 0 = base L + 8 * min (2 * (t.val + 1)) 27 := by
  have hb := base_le L
  have hn := next0 t
  have hw := word_base L
  show (Scalar.addi _ (Scalar.muli (Scalar.minsi (Scalar.addi (Scalar.addi (Scalar.muli 2#32 (Scf.iv 0#32 1#32 t.val)) 0#32) 2#32) 27#32) 8#32)).toNat = _
  rw [Scalar.addi, IntOp.addi, BitVec.toNat_add, hn, hw]
  omega

/-- The chunk a trip starts next for the second buffer. -/
theorem off24_0 (t : Fin k1_t1_loop.trips) : k1_off24 L t 0 = base L + 8 * min (2 * (t.val + 1) + 1) 27 := by
  have hb := base_le L
  have hn := next1 t
  have hw := word_base L
  show (Scalar.addi _ (Scalar.muli (Scalar.minsi (Scalar.addi (Scalar.addi (Scalar.muli 2#32 (Scf.iv 0#32 1#32 t.val)) 1#32) 2#32) 27#32) 8#32)).toNat = _
  rw [Scalar.addi, IntOp.addi, BitVec.toNat_add, hn, hw]
  omega

end Offsets

section Trip

variable (d : Dev nD) (L : grid1.Coords)

/-- The loop over the first buffer, from the eight zero vectors: the eight rows' sums, and the buffers as they were. -/
theorem t2_loop (E : Vec F S4096 .f32) (B : Vec F S8x4096 .f32) (c1 c2 : BitVec 32) (k1 : Fin k1_t1_loop.trips) {α : Type}
    {k : FVec F S16 .f32 × FVec F S16 .f32 × FVec F S16 .f32 × FVec F S16 .f32 × FVec F S16 .f32 × FVec F S16 .f32 × FVec F S16 .f32 × FVec F S16 .f32
      → Prog (TpuEff nD τ sig (Elt F) Λ₀ (.scVector (cV L) (jV L))) α} {Q : α → sProp 𝕄} :
    iprop(Epts d L E ∗ B0pts d L B)
      ⊢ iprop((iprop(Epts d L E ∗ B0pts d L B) -∗ wp frame (wpE (defs₀ (F := F)) 𝒱₀ (V d (cV L) (jV L)) none) Set.univ (k (accs B E 256)) Q)
        -∗ wp frame (wpE (defs₀ (F := F)) 𝒱₀ (V d (cV L) (jV L)) none) Set.univ
          ((Scf.Loop.for k1_t2_loop k1_t2_ok (k1_pay23 (F := F), k1_pay24 (F := F), k1_pay25 (F := F), k1_pay26 (F := F), k1_pay27 (F := F), k1_pay28 (F := F), k1_pay29 (F := F), k1_pay30 (F := F))
            (k1_t2_body L encV (Memref.isWhole_whole _) memV (Memref.isWhole_whole _) outV (Memref.isWhole_whole _) eV (Memref.isWhole_whole _)
            b0V (Memref.isWhole_whole _) b1V (Memref.isWhole_whole _) mV (Memref.isWhole_whole _) tV (Memref.isWhole_whole _)
            cc1_scratch5 cc1_scratch6 cc1_scratch7 cc1_scoped0 c1 c2 k1)) >>= k) Q) := by
  iintro ⟨HE, HB⟩ Hk
  sl_for (fun t acc => iprop(⌜acc = accs B E t⌝ ∗ Epts d L E ∗ B0pts d L B)) $$ [HE HB]
  · intro t acc
    iintro ⟨%ha, HE, HB⟩
    subst ha
    iapply (t2_step d L E B c1 c2 k1 t)
    isplitl [HE]
    · iexact HE
    · iexact HB
  · isplitr
    · ipureintro; rfl
    isplitl [HE]
    · iexact HE
    · iexact HB
  · iintro %acc ⟨%ha, HE, HB⟩
    have ha' : acc = accs B E 256 := ha
    subst ha'
    iapply Hk
    isplitl [HE]
    · iexact HE
    · iexact HB

/-- The loop over the second buffer, from the eight zero vectors: the eight rows' sums, and the buffers as they were. -/
theorem t3_loop (E : Vec F S4096 .f32) (B : Vec F S8x4096 .f32) {α : Type}
    {k : FVec F S16 .f32 × FVec F S16 .f32 × FVec F S16 .f32 × FVec F S16 .f32 × FVec F S16 .f32 × FVec F S16 .f32 × FVec F S16 .f32 × FVec F S16 .f32
      → Prog (TpuEff nD τ sig (Elt F) Λ₀ (.scVector (cV L) (jV L))) α} {Q : α → sProp 𝕄} :
    iprop(Epts d L E ∗ B1pts d L B)
      ⊢ iprop((iprop(Epts d L E ∗ B1pts d L B) -∗ wp frame (wpE (defs₀ (F := F)) 𝒱₀ (V d (cV L) (jV L)) none) Set.univ (k (accs B E 256)) Q)
        -∗ wp frame (wpE (defs₀ (F := F)) 𝒱₀ (V d (cV L) (jV L)) none) Set.univ
          ((Scf.Loop.for k1_t3_loop k1_t3_ok (k1_pay128 (F := F), k1_pay129 (F := F), k1_pay130 (F := F), k1_pay131 (F := F), k1_pay132 (F := F), k1_pay133 (F := F), k1_pay134 (F := F), k1_pay135 (F := F))
            (k1_t3_body L encV (Memref.isWhole_whole _) memV (Memref.isWhole_whole _) outV (Memref.isWhole_whole _) eV (Memref.isWhole_whole _)
            b0V (Memref.isWhole_whole _) b1V (Memref.isWhole_whole _) mV (Memref.isWhole_whole _) tV (Memref.isWhole_whole _)
            cc1_scratch5 cc1_scratch6 cc1_scratch7 cc1_scoped0)) >>= k) Q) := by
  iintro ⟨HE, HB⟩ Hk
  sl_for (fun t acc => iprop(⌜acc = accs B E t⌝ ∗ Epts d L E ∗ B1pts d L B)) $$ [HE HB]
  · intro t acc
    iintro ⟨%ha, HE, HB⟩
    subst ha
    iapply (t3_step d L E B t)
    isplitl [HE]
    · iexact HE
    · iexact HB
  · isplitr
    · ipureintro; rfl
    isplitl [HE]
    · iexact HE
    · iexact HB
  · iintro %acc ⟨%ha, HE, HB⟩
    have ha' : acc = accs B E 256 := ha
    subst ha'
    iapply Hk
    isplitl [HE]
    · iexact HE
    · iexact HB

/-- The check, the store of `pay` over the lane scratch and the gather at the lanes `x`, handed to the rest. -/
def gathP (x : IVec S16 32) (pay : FVec F S16 .f32) {α : Type}
    (kc : Vec F S16 .f32 → Prog (TpuEff nD τ sig (Elt F) Λ₀ (.scVector (cV L) (jV L))) α) : Prog (TpuEff nD τ sig (Elt F) Λ₀ (.scVector (cV L) (jV L))) α :=
  .op (.assume (k1_chk1 x) (k1_chk1.dec x)) fun h => .op (.load tV rT.toLoadRect (View.loadsAt_vmem h_S16)) fun _ =>
    .op (.store tV rT pay Finset.univ (View.stores_vmem_bits_univ h_S16 rfl) (.inl rfl)) fun _ =>
      SparseCore.vectorLoadIdx tV ![x] (k1_idx1_inb x h.down) (View.loads_vmem h_S16) >>= fun w => kc w

/-- A row's sum over its lanes, taken into the running minimum, handed to the rest. -/
def rowP (v mn : FVec F S16 .f32) {α : Type}
    (kc : FVec F S16 .f32 → Prog (TpuEff nD τ sig (Elt F) Λ₀ (.scVector (cV L) (jV L))) α) : Prog (TpuEff nD τ sig (Elt F) Λ₀ (.scVector (cV L) (jV L))) α :=
  gathP L (xw 8#32) (shapeCast S16 v shapeCasts_S16_S16) fun r1 =>
  gathP L (xw 4#32) (shapeCast S16 (addf v r1) shapeCasts_S16_S16) fun r2 =>
  gathP L (xw 2#32) (shapeCast S16 (addf (addf v r1) r2) shapeCasts_S16_S16) fun r3 =>
  gathP L (xw 1#32) (shapeCast S16 (addf (addf (addf v r1) r2) r3) shapeCasts_S16_S16) fun r4 =>
  kc (minimumf mn (addf (addf (addf (addf v r1) r2) r3) r4))

/-- The eight rows of a chunk, taken into the running minimum in order, handed to the rest. -/
def rowsP (a : FVec F S16 .f32 × FVec F S16 .f32 × FVec F S16 .f32 × FVec F S16 .f32 × FVec F S16 .f32 × FVec F S16 .f32 × FVec F S16 .f32 × FVec F S16 .f32)
    (mn : FVec F S16 .f32) {α : Type}
    (kc : FVec F S16 .f32 → Prog (TpuEff nD τ sig (Elt F) Λ₀ (.scVector (cV L) (jV L))) α) : Prog (TpuEff nD τ sig (Elt F) Λ₀ (.scVector (cV L) (jV L))) α :=
  rowP L a.1 mn fun m => rowP L a.2.1 m fun m => rowP L a.2.2.1 m fun m => rowP L a.2.2.2.1 m fun m =>
  rowP L a.2.2.2.2.1 m fun m => rowP L a.2.2.2.2.2.1 m fun m => rowP L a.2.2.2.2.2.2.1 m fun m => rowP L a.2.2.2.2.2.2.2 m kc

/-- The trip, written through its rows. -/
def tripP (t : Fin k1_t1_loop.trips) (mn : FVec F S16 .f32) : Prog (TpuEff nD τ sig (Elt F) Λ₀ (.scVector (cV L) (jV L))) (FVec F S16 .f32) :=
  .op (.waitDma2 cc1_scratch6.sem (memV.slice (Rect.unit (s := S16384x4096) (k1_off3 L) S8x4096.size (k1_off3_inb L)) (fun _ => rfl)) b0V
      (View.wordExact_bits rfl) (Memref.isWhole_whole _).wordExact) fun _ =>
  (Scf.Loop.for k1_t2_loop k1_t2_ok (k1_pay23 (F := F), k1_pay24 (F := F), k1_pay25 (F := F), k1_pay26 (F := F), k1_pay27 (F := F), k1_pay28 (F := F), k1_pay29 (F := F), k1_pay30 (F := F))
    (k1_t2_body L encV (Memref.isWhole_whole _) memV (Memref.isWhole_whole _) outV (Memref.isWhole_whole _) eV (Memref.isWhole_whole _)
      b0V (Memref.isWhole_whole _) b1V (Memref.isWhole_whole _) mV (Memref.isWhole_whole _) tV (Memref.isWhole_whole _)
      cc1_scratch5 cc1_scratch6 cc1_scratch7 cc1_scoped0 0#32 1#32 t)) >>= fun a =>
  rowsP L a mn fun m =>
  .op (.enqueueDma (memV.slice (Rect.unit (s := S16384x4096) (k1_off13 L t) S8x4096.size (k1_off13_inb L t)) (fun _ => rfl)) (.here b0V) (.dma cc1_scratch6.sem)
      (View.wordExact_bits rfl) (Memref.isWhole_whole _).wordExact ⟨Or.inl rfl, trivial⟩) fun _ =>
  .op (.waitDma2 cc1_scratch7.sem (memV.slice (Rect.unit (s := S16384x4096) (k1_off14 L) S8x4096.size (k1_off14_inb L)) (fun _ => rfl)) b1V
      (View.wordExact_bits rfl) (Memref.isWhole_whole _).wordExact) fun _ =>
  (Scf.Loop.for k1_t3_loop k1_t3_ok (k1_pay128 (F := F), k1_pay129 (F := F), k1_pay130 (F := F), k1_pay131 (F := F), k1_pay132 (F := F), k1_pay133 (F := F), k1_pay134 (F := F), k1_pay135 (F := F))
    (k1_t3_body L encV (Memref.isWhole_whole _) memV (Memref.isWhole_whole _) outV (Memref.isWhole_whole _) eV (Memref.isWhole_whole _)
      b0V (Memref.isWhole_whole _) b1V (Memref.isWhole_whole _) mV (Memref.isWhole_whole _) tV (Memref.isWhole_whole _)
      cc1_scratch5 cc1_scratch6 cc1_scratch7 cc1_scoped0)) >>= fun a =>
  rowsP L a m fun m =>
  .op (.enqueueDma (memV.slice (Rect.unit (s := S16384x4096) (k1_off24 L t) S8x4096.size (k1_off24_inb L t)) (fun _ => rfl)) (.here b1V) (.dma cc1_scratch7.sem)
      (View.wordExact_bits rfl) (Memref.isWhole_whole _).wordExact ⟨Or.inl rfl, trivial⟩) fun _ =>
  .ret m

/-- A program bound twice is bound once, to its continuations bound. -/
theorem bind_regroup {E : Type → Type} {α β γ : Type} (p : Prog E α) {f : α → Prog E β} {g : β → Prog E γ} {r : α → Prog E γ}
    (h : ∀ a, Prog.bind (f a) g = r a) : Prog.bind (Prog.bind p f) g = Prog.bind p r :=
  (Prog.bind_assoc p f g).trans (congrArg (Prog.bind p) (funext h))

set_option maxHeartbeats 40000000 in
set_option maxRecDepth 65536 in
/-- The printed trip is the trip written through its rows. -/
theorem trip_eq (v2 : BitVec 32) (t : Fin k1_t1_loop.trips) (mn : FVec F S16 .f32) :
    k1_t1_body L encV (Memref.isWhole_whole _) memV (Memref.isWhole_whole _) outV (Memref.isWhole_whole _) eV (Memref.isWhole_whole _)
      b0V (Memref.isWhole_whole _) b1V (Memref.isWhole_whole _) mV (Memref.isWhole_whole _) tV (Memref.isWhole_whole _)
      cc1_scratch5 cc1_scratch6 cc1_scratch7 cc1_scoped0 v2 t mn = tripP L t mn := by
  unfold tripP
  refine congrArg (Prog.op _) (funext fun u => ?_)
  refine bind_regroup (Scf.Loop.for k1_t2_loop k1_t2_ok _ _) fun a => ?_
  iterate 130 refine congrArg (Prog.op _) (funext fun _ => ?_)
  exact bind_regroup (Scf.Loop.for k1_t3_loop k1_t3_ok _ _) fun a => rfl

/-- A gather hands on the stored vector's lanes at `j xor k`. -/
theorem gathP_step (k : Fin 16) (x : IVec S16 32) (hx : x = xw (BitVec.ofNat 32 k.val)) (pay : FVec F S16 .f32) (f : Vec F S16 .f32) {α : Type}
    {kc : Vec F S16 .f32 → Prog (TpuEff nD τ sig (Elt F) Λ₀ (.scVector (cV L) (jV L))) α} {Q : α → sProp 𝕄} :
    Tpts d L f ⊢ iprop((Tpts d L pay -∗ wp frame (wpE (defs₀ (F := F)) 𝒱₀ (V d (cV L) (jV L)) none) Set.univ (kc (lx k pay)) Q)
      -∗ wp frame (wpE (defs₀ (F := F)) 𝒱₀ (V d (cV L) (jV L)) none) Set.univ (gathP L x pay kc) Q) := by
  subst hx
  exact gather_step d L k (P := k1_chk1 (xw (BitVec.ofNat 32 k.val))) (dec := k1_chk1.dec _) (xw_inb k) _ rfl pay f (Kc := fun _ => kc)

/-- A row's lane sum goes into the running minimum. -/
theorem rowP_step (v mn : FVec F S16 .f32) {α : Type}
    {kc : FVec F S16 .f32 → Prog (TpuEff nD τ sig (Elt F) Λ₀ (.scVector (cV L) (jV L))) α} {Q : α → sProp 𝕄} :
    iprop(∃ f, Tpts d L f) ⊢ iprop((iprop(∃ f, Tpts d L f) -∗ wp frame (wpE (defs₀ (F := F)) 𝒱₀ (V d (cV L) (jV L)) none) Set.univ (kc (minimumf mn (lsum v))) Q)
      -∗ wp frame (wpE (defs₀ (F := F)) 𝒱₀ (V d (cV L) (jV L)) none) Set.univ (rowP L v mn kc) Q) := by
  unfold rowP
  iintro ⟨%f, HT⟩ Hk
  iapply (gathP_step d L 8 _ rfl _ _) $$ HT
  iintro HT
  iapply (gathP_step d L 4 _ rfl _ _) $$ HT
  iintro HT
  iapply (gathP_step d L 2 _ rfl _ _) $$ HT
  iintro HT
  iapply (gathP_step d L 1 _ rfl _ _) $$ HT
  iintro HT
  iapply Hk
  iexists _
  iexact HT

/-- A chunk's eight rows go into the running minimum. -/
theorem rowsP_step (B : Vec F S8x4096 .f32) (E : Vec F S4096 .f32) (mn : FVec F S16 .f32) {α : Type}
    {kc : FVec F S16 .f32 → Prog (TpuEff nD τ sig (Elt F) Λ₀ (.scVector (cV L) (jV L))) α} {Q : α → sProp 𝕄} :
    iprop(∃ f, Tpts d L f) ⊢ iprop((iprop(∃ f, Tpts d L f) -∗ wp frame (wpE (defs₀ (F := F)) 𝒱₀ (V d (cV L) (jV L)) none) Set.univ (kc (chunkMin B E mn)) Q)
      -∗ wp frame (wpE (defs₀ (F := F)) 𝒱₀ (V d (cV L) (jV L)) none) Set.univ (rowsP L (accs B E 256) mn kc) Q) := by
  unfold rowsP accs
  iintro HT Hk
  iterate 8
    iapply (rowP_step d L _ _) $$ HT
    iintro HT
  iapply Hk
  iexact HT

set_option maxHeartbeats 4000000 in
/-- One trip of the main loop: the running minimum moves over two more chunks, and the next two are in flight. -/
theorem trip (q0 q1 : PosShare TreeShare) (E : Vec F S4096 .f32) (M : Vec F S16384x4096 .f32) (mn : FVec F S16 .f32) (o0 o1 : ℕ)
    (v2 : BitVec 32) (t : Fin k1_t1_loop.trips) (O : CellTallies nD τ sig (HIx 1)) (W : Waits sig (HIx 1)) :
    iprop(Transfers.MayWaits (thr d L) (default : HIx 1) O ∗ Epts d L E ∗ (∃ f, Tpts d L f) ∗ F0 d L q0 M o0 ∗ F1 d L q1 M o1 ∗ owes (thr d L) O W)
      ⊢ wp frame (wpE (defs₀ (F := F)) 𝒱₀ (V d (cV L) (jV L)) none) Set.univ
          (k1_t1_body L encV (Memref.isWhole_whole _) memV (Memref.isWhole_whole _) outV (Memref.isWhole_whole _) eV (Memref.isWhole_whole _)
            b0V (Memref.isWhole_whole _) b1V (Memref.isWhole_whole _) mV (Memref.isWhole_whole _) tV (Memref.isWhole_whole _)
            cc1_scratch5 cc1_scratch6 cc1_scratch7 cc1_scoped0 v2 t mn)
          fun acc => iprop(⌜acc = chunkMin (chunk M o1) E (chunkMin (chunk M o0) E mn)⌝ ∗ Epts d L E ∗ (∃ f, Tpts d L f)
            ∗ F0 d L q0 M (base L + 8 * min (2 * (t.val + 1)) 27) ∗ F1 d L q1 M (base L + 8 * min (2 * (t.val + 1) + 1) 27)
            ∗ owes (thr d L) O (insert (SemLoc.dma cc1_scratch7.sem, (default : HIx 1)) (insert (SemLoc.dma cc1_scratch6.sem, (default : HIx 1)) W))) := by
  rw [trip_eq]
  unfold tripP
  iintro ⟨#Hmw, HE, HT, HF0, HF1, HO⟩
  iapply (wait0 d L q0 M o0 O W) $$ [HF0 HO]
  · isplitl [HF0]; · iexact HF0
    isplitl [HO]; · iexact HO
    iexact Hmw
  iintro ⟨HB0, HM0, Hs0, HO⟩
  iapply (t2_loop d L E (chunk M o0)) $$ [HE HB0]
  · isplitl [HE]; · iexact HE
    iexact HB0
  iintro ⟨HE, HB0⟩
  iapply (rowsP_step d L (chunk M o0) E mn) $$ HT
  iintro HT
  iapply (issue0 d L q0 M (chunk M o0) _ _ _ (off13_0 L t) rfl) $$ [HB0 HM0 Hs0]
  · isplitl [HB0]; · iexact HB0
    isplitl [HM0]; · iexact HM0
    iexact Hs0
  iintro HF0
  iapply (wait1 d L q1 M o1 O _) $$ [HF1 HO]
  · isplitl [HF1]; · iexact HF1
    isplitl [HO]; · iexact HO
    iexact Hmw
  iintro ⟨HB1, HM1, Hs1, HO⟩
  iapply (t3_loop d L E (chunk M o1)) $$ [HE HB1]
  · isplitl [HE]; · iexact HE
    iexact HB1
  iintro ⟨HE, HB1⟩
  iapply (rowsP_step d L (chunk M o1) E _) $$ HT
  iintro HT
  iapply (issue1 d L q1 M (chunk M o1) _ _ _ (off24_0 L t) rfl) $$ [HB1 HM1 Hs1]
  · isplitl [HB1]; · iexact HB1
    isplitl [HM1]; · iexact HM1
    iexact Hs1
  iintro HF1
  rw [wp_ret]
  imodintro
  isplitr
  · ipureintro; rfl
  isplitl [HE]; · iexact HE
  isplitl [HT]; · iexact HT
  isplitl [HF0]; · iexact HF0
  isplitl [HF1]; · iexact HF1
  iexact HO

end Trip

end Cert.Proof.Sc
-- ==== Proof.Tile.lean ====
/-
  One vector subcore's whole task: the encoding fetched, fourteen trips over the subcore's rows of the table, the two
  last chunks waited for, and the running minimum written to the subcore's row of the result.
-/
module

public import proofs.«01_k».proof.Proof.Trip

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid1.Coords)

abbrev jL (L : grid1.Coords) : Fin 16 := L 1
abbrev cL (L : grid1.Coords) : Fin 2 := L 0

/-- The elements of the result's row that subcore `i` of SparseCore `c` writes. -/
def tileRow (c : Fin 2) (i : Fin 16) : Finset S32x16.Idx := Finset.univ.filter fun j => (j 0).val = 2 * i.val + c.val

/-- The subcore's row of the result as the task addresses it. -/
abbrev oRowK (L : grid1.Coords) : Memref sig .scVector .hbm S16 .f32 :=
  (outV.slice (Rect.unit (s := S32x16) (k1_off25 L) S1x16.size (k1_off25_inb L)) (fun _ => rfl)).squeeze S16 squeezes_S1x16_S16

theorem off25_0 : k1_off25 L 0 = 2 * (L 1).val + (L 0).val := by
  have h0 := L0_lt L
  have h1 := L1_lt L
  show (Scalar.addi (Scalar.muli (BitVec.ofNat 32 (L 1).val) 2#32) (BitVec.ofNat 32 (L 0).val)).toNat = _
  simp only [Scalar.muli, Scalar.addi, IntOp.muli, IntOp.addi]
  simp [BitVec.toNat_mul, BitVec.toNat_add, BitVec.toNat_ofNat]
  omega

theorem off25_1 : k1_off25 L 1 = 0 := rfl

theorem emb_oRowK (k : S16.Idx) : (oRowK L).view.emb k = (ix2 ⟨2 * (L 1).val + (L 0).val, by have := L0_lt L; have := L1_lt L; omega⟩ (k 0) : S32x16.Idx) := by
  show (Rect.unit (s := S32x16) (k1_off25 L) S1x16.size (k1_off25_inb L)).idx (Shape.reshapeEquiv _ k) = _
  rw [show Shape.reshapeEquiv (s := S1x16) (s' := S16) squeezes_S1x16_S16.numel_eq k = Fin.cons ⟨0, Nat.one_pos⟩ k from
    Shape.reshapeEquiv_cons_one (d := S16.size) _ k]
  funext a
  match a with
  | ⟨0, _⟩ =>
    apply Fin.ext
    show k1_off25 L 0 + 1 * 0 = _
    rw [off25_0]
    rfl
  | ⟨1, _⟩ =>
    apply Fin.ext
    show k1_off25 L 1 + 1 * (k 0).val = (k 0).val
    rw [off25_1]; omega

theorem set_oRowK : (oRowK L).view.set = tileRow (cL L) (jL L) := by
  ext j
  constructor
  · intro h
    obtain ⟨k, -, rfl⟩ := Finset.mem_map.mp h
    rw [emb_oRowK]
    exact Finset.mem_filter.mpr ⟨Finset.mem_univ _, rfl⟩
  · intro h
    have h := (Finset.mem_filter.mp h).2
    refine Finset.mem_map.mpr ⟨ix1 (j 1), Finset.mem_univ _, ?_⟩
    rw [emb_oRowK]
    funext a
    match a with
    | ⟨0, _⟩ => exact Fin.ext h.symm
    | ⟨1, _⟩ => rfl

/-- What the SparseCore call leaves in its result: row `r` holds subcore `r`'s running minimum after its fourteen trips. -/
def scOut (E : Vec F S4096 .f32) (M : Vec F S16384x4096 .f32) : Vec F S32x16 .f32 :=
  fun j => tripMin M E ((j 0).val * 224) 14 (ix1 (j 1))

/-- On the subcore's row, the running minimum written is the result. -/
theorem write_oRowK (f : Vec F S32x16 .f32) (E : Vec F S4096 .f32) (M : Vec F S16384x4096 .f32) (v : FVec F S16 .f32) (hv : v = tripMin M E (base L) 14) :
    ∀ j ∈ tileRow (cL L) (jL L), ((oRowK L).view.write (Elt F) f v Finset.univ : Vec F S32x16 .f32) j = scOut E M j := by
  intro j hj
  rw [← set_oRowK] at hj
  obtain ⟨k, -, rfl⟩ := Finset.mem_map.mp hj
  refine (View.write_emb_of_mem (Val := Elt F) (v := (oRowK L).view) f v (Finset.mem_univ k)).trans ?_
  rw [emb_oRowK]
  subst hv
  show tripMin M E (base L) 14 k = tripMin M E ((2 * (L 1).val + (L 0).val) * 224) 14 (ix1 (k 0))
  rw [eq_ix1 k]
  rfl

/-! ## The subcore's own semaphores and buffers -/

abbrev eCell : GSem nD τ sig := (thr d L, .dma cc1_scratch5.sem)
abbrev oCell : GSem nD τ sig := (thr d L, .dma cc1_scoped0.sem)

theorem ownSems0_V :
    (ownSems0 (thr d L) : sProp 𝕄)
      = iprop(semVal (eCell d L) 0 ∗ semVal (s0cell d L) 0 ∗ semVal (s1cell d L) 0 ∗ semVal (oCell d L) 0
          ∗ bigSep (((((ownCells (thr d L)).erase (eCell d L)).erase (s0cell d L)).erase (s1cell d L)).erase (oCell d L)) fun g => semVal g 0) := by
  unfold SparseCore.Cfg.ownSems0
  rw [SparseCore.bigSep_erase' ((mem_ownCells (g := eCell d L)).mpr ⟨rfl, by
      show (SemLoc.dma cc1_scratch5.sem : SemLoc sig).isScoped .scVector = true; decide⟩),
    SparseCore.bigSep_erase' (Finset.mem_erase.mpr ⟨by simp [eCell, s0cell]; decide, (mem_ownCells (g := s0cell d L)).mpr ⟨rfl, by
      show (SemLoc.dma cc1_scratch6.sem : SemLoc sig).isScoped .scVector = true; decide⟩⟩),
    SparseCore.bigSep_erase' (Finset.mem_erase.mpr ⟨by simp [s1cell, s0cell]; decide, Finset.mem_erase.mpr ⟨by simp [eCell, s1cell]; decide,
      (mem_ownCells (g := s1cell d L)).mpr ⟨rfl, by show (SemLoc.dma cc1_scratch7.sem : SemLoc sig).isScoped .scVector = true; decide⟩⟩⟩),
    SparseCore.bigSep_erase' (Finset.mem_erase.mpr ⟨by simp [s1cell, oCell]; decide, Finset.mem_erase.mpr ⟨by simp [s0cell, oCell]; decide,
      Finset.mem_erase.mpr ⟨by simp [eCell, oCell]; decide,
      (mem_ownCells (g := oCell d L)).mpr ⟨rfl, by show (SemLoc.dma cc1_scoped0.sem : SemLoc sig).isScoped .scVector = true; decide⟩⟩⟩⟩)]

abbrev dr (b : Ref sig .scVector) : DevRef τ sig := (Proc.scVector (cV L) (jV L)).devRef b

theorem dr_ne {a b : Ref sig .scVector} (h : a ≠ b) : dr L a ≠ dr L b := fun e => absurd (Proc.devRef_injective _ e) h

/-- The five scratch buffers are among the subcore's own: they are them, at some contents, and the rest. -/
theorem ownBufs_V :
    (ownBufs (thr d L) : sProp 𝕄)
      = iprop((∃ f, Epts d L f) ∗ (∃ f, B0pts d L f) ∗ (∃ f, B1pts d L f) ∗ (∃ f, (mV).view.loc (thr d L) ↦{fullShare} f) ∗ (∃ f, Tpts d L f)
          ∗ bigSep ((((((ownRefs (τ := τ) (.scVector (cV L) (jV L))).erase (dr L cc1_scratch0)).erase (dr L cc1_scratch1)).erase (dr L cc1_scratch2)).erase
              (dr L cc1_scratch3)).erase (dr L cc1_scratch4)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := dr L cc1_scratch0) rfl)).trans ?_
  rw [SparseCore.bigSep_erase' (Finset.mem_erase.mpr ⟨dr_ne L (show (cc1_scratch1 : Ref sig .scVector) ≠ cc1_scratch0 by decide),
      SparseCore.Cfg.mem_ownRefs_of_owner (p := Proc.scVector (cV L) (jV L)) (b := dr L cc1_scratch1) rfl⟩),
    SparseCore.bigSep_erase' (Finset.mem_erase.mpr ⟨dr_ne L (show (cc1_scratch2 : Ref sig .scVector) ≠ cc1_scratch1 by decide),
      Finset.mem_erase.mpr ⟨dr_ne L (show (cc1_scratch2 : Ref sig .scVector) ≠ cc1_scratch0 by decide),
      SparseCore.Cfg.mem_ownRefs_of_owner (p := Proc.scVector (cV L) (jV L)) (b := dr L cc1_scratch2) rfl⟩⟩),
    SparseCore.bigSep_erase' (Finset.mem_erase.mpr ⟨dr_ne L (show (cc1_scratch3 : Ref sig .scVector) ≠ cc1_scratch2 by decide),
      Finset.mem_erase.mpr ⟨dr_ne L (show (cc1_scratch3 : Ref sig .scVector) ≠ cc1_scratch1 by decide),
      Finset.mem_erase.mpr ⟨dr_ne L (show (cc1_scratch3 : Ref sig .scVector) ≠ cc1_scratch0 by decide),
      SparseCore.Cfg.mem_ownRefs_of_owner (p := Proc.scVector (cV L) (jV L)) (b := dr L cc1_scratch3) rfl⟩⟩⟩),
    SparseCore.bigSep_erase' (Finset.mem_erase.mpr ⟨dr_ne L (show (cc1_scratch4 : Ref sig .scVector) ≠ cc1_scratch3 by decide),
      Finset.mem_erase.mpr ⟨dr_ne L (show (cc1_scratch4 : Ref sig .scVector) ≠ cc1_scratch2 by decide),
      Finset.mem_erase.mpr ⟨dr_ne L (show (cc1_scratch4 : Ref sig .scVector) ≠ cc1_scratch1 by decide),
      Finset.mem_erase.mpr ⟨dr_ne L (show (cc1_scratch4 : Ref sig .scVector) ≠ cc1_scratch0 by decide),
      SparseCore.Cfg.mem_ownRefs_of_owner (p := Proc.scVector (cV L) (jV L)) (b := dr L cc1_scratch4) rfl⟩⟩⟩⟩)]
  rfl

/-! ## The task -/

/-- A store over the whole vector of the running minimum leaves the stored vector. -/
theorem write_mV (f : Vec F S16 .f32) (v : FVec F S16 .f32) : ((mV).access rT).write (Elt F) f (k1_pay10 v) Finset.univ = v := by
  rw [show k1_pay10 v = v from funext fun i => congrArg v (Shape.reshapeEquiv_self _ i)]
  funext i
  have h := View.write_emb_of_mem (Val := Elt F) (v := (mV).access rT) f v (Finset.mem_univ i)
  rw [show ((mV).access rT).emb i = i from rT_emb i] at h
  exact h

/-- Sharing a points-to between the two halves of its share. -/
theorem halves {ℓ : Loc nD τ sig} (q : PosShare TreeShare) (f : Buf (Elt F) ℓ) :
    (ℓ ↦{q} f : sProp 𝕄) = iprop((ℓ ↦{q.left} f) ∗ ℓ ↦{q.right} f) :=
  BI.Entails.antisymm (pointsTo_share (PosShare.mem_left_op_right q)).1 (pointsTo_share (PosShare.mem_left_op_right q)).2

set_option maxHeartbeats 4000000 in
/-- The task on vector subcore `L` of device `d`: from its shares of the encoding and of the table and its row of the
    result, it leaves the shares as they were and the row at `scOut`. -/
theorem tile_body (hF : (K (F := F)).Facts) (q : PosShare TreeShare) (E : Vec F S4096 .f32) (M : Vec F S16384x4096 .f32)
    (O : CellTallies nD τ sig (HIx 1)) (W : Waits sig (HIx 1)) (hO : ∀ g, O g none = 0) :
    iprop(levAts (K (F := F)).L (K (F := F)).lev ∗ emp
        ∗ (((encV).view.loc (thr d L) ↦{q} E) ∗ Mpts d L q M ∗ ∃ f, (outV).view.loc (thr d L) ↦[tileRow (cL L) (jL L)]{fullShare} f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__dist_body L encV (Memref.isWhole_whole _) memV (Memref.isWhole_whole _) outV (Memref.isWhole_whole _) eV (Memref.isWhole_whole _)
            b0V (Memref.isWhole_whole _) b1V (Memref.isWhole_whole _) mV (Memref.isWhole_whole _) tV (Memref.isWhole_whole _)
            cc1_scratch5 cc1_scratch6 cc1_scratch7 cc1_scoped0)
          fun _ => iprop((((encV).view.loc (thr d L) ↦{q} E) ∗ Mpts d L q M ∗ (outV).view.loc (thr d L) ↦[tileRow (cL L) (jL L)]{fullShare} scOut E M)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__dist_body_eq_skeleton]; unfold cc1__dist_body_skel
  simp only [Prog.lift, Prog.bind_op, Prog.bind_ret, Prog.pure_eq_ret, Prog.bind_assoc]
  rw [(K (F := F)).scopedBufs_V hF d (cV L) (jV L), SparseCore.Cfg.scopedSems0_V (Val := Elt F) d (cV L) (jV L), ownSems0_V, ownBufs_V]
  iintro ⟨#Hlv, -, ⟨He, HM, ⟨%fo, Ho⟩⟩, ⟨⟨%fE, HE⟩, ⟨%f0, HB0⟩, ⟨%f1, HB1⟩, ⟨%fm, Hm⟩, HT, Hbufs⟩, ⟨HsE, Hs0, Hs1, HsO, Hsems⟩, HO⟩
  ihave #Hmw := (show levAts (K (F := F)).L (K (F := F)).lev ⊢ Transfers.MayWaits (thr d L) (default : HIx 1) O from
    (K (F := F)).mayWaits_none (thr := thr d L) hO) $$ Hlv
  ihave HM2 := (Entails.of_eq (halves (F := F) q M)) $$ HM
  icases HM2 with ⟨HM0, HM1⟩
  iapply (Transfers.wp_dmaLocal countersEmb 𝒱₀ (thr d L) none (src := encV) (dst := eV) (sm := .dma cc1_scratch5.sem) (fs := E) (fd := fE)
    (Sd := Finset.univ) (q := q) (default : HIx 1) (eV).view.dmaCredit rfl (by decide) (Finset.subset_univ _)) $$ [He HE HsE]
  · isplitl [He]; · rw [show (encV).view.set = Finset.univ from View.set_whole _]; iexact He
    isplitl [HE]; · iexact HE
    iexact HsE
  iintro Hf
  iapply (Transfers.wp_waitLocalO countersEmb 𝒱₀ (thr d L) none (default : HIx 1) (rfl : (eV).view.dmaCredit = _)) $$ [Hf HO]
  · isplitl [Hf]; · iexact Hf
    isplitl [HO]; · iexact HO
    iapply (Transfers.MayWaits.elim (SemLoc.dma cc1_scratch5.sem)) $$ Hmw
  iintro ⟨⟨HE, He⟩, HsE, HO⟩
  ihave HE' := (Entails.of_eq (show ((eV).view.loc (thr d L) ↦{fullShare} View.write (Elt F) (eV).view fE ((encV).view.read (Elt F) E) Finset.univ : sProp 𝕄)
    = Epts d L E by rw [View.write_whole_univ]; rfl)) $$ HE
  iapply (issue0 d L q.left M f0 _ _ _ (off1_0 L) rfl) $$ [HB0 HM0 Hs0]
  · isplitl [HB0]; · iexact HB0
    isplitl [HM0]; · iexact HM0
    iexact Hs0
  iintro HF0
  iapply (issue1 d L q.right M f1 _ _ _ (off2_0 L) rfl) $$ [HB1 HM1 Hs1]
  · isplitl [HB1]; · iexact HB1
    isplitl [HM1]; · iexact HM1
    iexact Hs1
  iintro HF1
  sl_for (fun t acc => iprop(⌜acc = tripMin M E (base L) t⌝ ∗ Transfers.MayWaits (thr d L) (default : HIx 1) O ∗ Epts d L E ∗ (∃ f, Tpts d L f)
    ∗ F0 d L q.left M (base L + 8 * min (2 * t) 27) ∗ F1 d L q.right M (base L + 8 * min (2 * t + 1) 27)
    ∗ ∃ W', ⌜∀ p ∈ W', p ∈ W ∨ p.2 = none⌝ ∗ owes (thr d L) O W')) $$ [HE' HT HF0 HF1 HO]
  · intro t acc
    iintro ⟨%ha, #Hmw, HE, HT, HF0, HF1, ⟨%W', %hW', HO⟩⟩
    have ht : t.val < 14 := t.isLt
    subst ha
    have e0 : min (2 * t.val) 27 = 2 * t.val := by omega
    have e1 : min (2 * t.val + 1) 27 = 2 * t.val + 1 := by omega
    rw [e0, e1]
    iapply (wp_wand frame _ _ (p := k1_t1_body L encV (Memref.isWhole_whole _) memV (Memref.isWhole_whole _) outV (Memref.isWhole_whole _) eV (Memref.isWhole_whole _)
            b0V (Memref.isWhole_whole _) b1V (Memref.isWhole_whole _) mV (Memref.isWhole_whole _) tV (Memref.isWhole_whole _)
            cc1_scratch5 cc1_scratch6 cc1_scratch7 cc1_scoped0 _ t (tripMin M E (base L) t.val))) $$ [HE HT HF0 HF1 HO]
    · iapply (trip d L q.left q.right E M _ _ _ _ t O W')
      isplitr; · iexact Hmw
      isplitl [HE]; · iexact HE
      isplitl [HT]; · iexact HT
      isplitl [HF0]; · iexact HF0
      isplitl [HF1]; · iexact HF1
      iexact HO
    iintro %acc ⟨%ha, HE, HT, HF0, HF1, HO⟩
    isplitr
    · ipureintro; rw [ha]; rfl
    isplitr; · iexact Hmw
    isplitl [HE]; · iexact HE
    isplitl [HT]; · iexact HT
    isplitl [HF0]; · iexact HF0
    isplitl [HF1]; · iexact HF1
    iexists _
    isplitr
    swap; · iexact HO
    ipureintro; intro p hp
    rcases Finset.mem_insert.mp hp with hp | hp
    · exact .inr (hp ▸ rfl)
    rcases Finset.mem_insert.mp hp with hp | hp
    · exact .inr (hp ▸ rfl)
    exact hW' p hp
  · isplitr
    · ipureintro; rfl
    isplitr; · iexact Hmw
    isplitl [HE']; · iexact HE'
    isplitl [HT]; · iexact HT
    isplitl [HF0]; · iexact HF0
    isplitl [HF1]; · iexact HF1
    iexists _
    isplitr
    swap; · iexact HO
    ipureintro; intro p hp
    rcases Finset.mem_insert.mp hp with hp | hp
    · exact .inr (hp ▸ rfl)
    · exact .inl hp
  iintro %acc ⟨%ha, -, HE, HT, HF0, HF1, ⟨%W', %hW', HO⟩⟩
  replace ha : acc = tripMin M E (base L) 14 := ha
  iapply (wait0 d L q.left M _ O W') $$ [HF0 HO]
  · isplitl [HF0]; · iexact HF0
    isplitl [HO]; · iexact HO
    iexact Hmw
  iintro ⟨HB0, HM0, Hs0, HO⟩
  iapply (wait1 d L q.right M _ O _) $$ [HF1 HO]
  · isplitl [HF1]; · iexact HF1
    isplitl [HO]; · iexact HO
    iexact Hmw
  iintro ⟨HB1, HM1, Hs1, HO⟩
  iapply (wp_load 𝒱₀ (thr d L) none Set.univ (m := mV) (r := rT.toLoadRect) (S := Finset.univ) (f := fm) (Finset.subset_univ _)) $$ Hm
  iintro Hm
  ihave Hm2 := (Entails.of_eq (show ((mV).view.loc (thr d L) ↦{fullShare} fm : sProp 𝕄) = (((mV).access rT).loc (thr d L) ↦{fullShare} fm) from rfl)) $$ Hm
  iapply (wp_store 𝒱₀ (thr d L) none Set.univ (m := mV) (r := rT) (S := Finset.univ) (f := fm) (Finset.subset_univ _)) $$ Hm2
  iintro Hm
  ihave Hm' := (Entails.of_eq (show (((mV).access rT).loc (thr d L) ↦{fullShare} ((mV).access rT).write (Elt F) fm (k1_pay10 acc) Finset.univ : sProp 𝕄)
      = ((mV).view.loc (thr d L) ↦{fullShare} acc) from by rw [write_mV])) $$ Hm
  iapply (Transfers.wp_dmaLocal countersEmb 𝒱₀ (thr d L) none (src := mV) (dst := oRowK L) (sm := .dma cc1_scoped0.sem) (fs := acc) (fd := fo)
    (Sd := tileRow (cL L) (jL L)) (q := fullShare) (default : HIx 1) (oRowK L).view.dmaCredit rfl (View.dmaCredit_pos _ (by decide)) (by rw [set_oRowK])) $$ [Hm' Ho HsO]
  · isplitl [Hm']; · rw [show (mV).view.set = Finset.univ from View.set_whole _]; iexact Hm'
    isplitl [Ho]; · iexact Ho
    iexact HsO
  iintro Hf
  iapply (Transfers.wp_waitLocalO countersEmb 𝒱₀ (thr d L) none (default : HIx 1) (rfl : (oRowK L).view.dmaCredit = _)) $$ [Hf HO]
  · isplitl [Hf]; · iexact Hf
    isplitl [HO]; · iexact HO
    iapply (Transfers.MayWaits.elim (SemLoc.dma cc1_scoped0.sem)) $$ Hmw
  iintro ⟨⟨Ho, Hm⟩, HsO, HO⟩
  ihave He' := (Entails.of_eq (show ((encV).view.loc (thr d L) ↦[(encV).view.set]{q} E : sProp 𝕄) = ((encV).view.loc (thr d L) ↦{q} E) by
    rw [show (encV).view.set = Finset.univ from View.set_whole _])) $$ He
  ihave Hm' := (Entails.of_eq (show ((mV).view.loc (thr d L) ↦[(mV).view.set]{fullShare} acc : sProp 𝕄) = ((mV).view.loc (thr d L) ↦{fullShare} acc) by
    rw [show (mV).view.set = Finset.univ from View.set_whole _])) $$ Hm
  ihave Ho' := (Entails.of_eq (show ((oRowK L).view.loc (thr d L) ↦[tileRow (cL L) (jL L)]{fullShare}
      (oRowK L).view.write (Elt F) fo ((mV).view.read (Elt F) acc) Finset.univ : sProp 𝕄)
    = ((outV).view.loc (thr d L) ↦[tileRow (cL L) (jL L)]{fullShare} scOut E M) from pointsTo_congr (write_oRowK L fo E M acc ha))) $$ Ho
  rw [wp_ret]
  imodintro
  isplitl [He' HM0 HM1 Ho']
  · isplitl [He']; · iexact He'
    isplitl [HM0 HM1]
    · iapply (Entails.of_eq (halves (F := F) q M).symm)
      isplitl [HM0]; · iexact HM0
      iexact HM1
    iexact Ho'
  isplitl [HE HB0 HB1 Hm' HT Hbufs]
  · isplitl [HE]; · iexists _; iexact HE
    isplitl [HB0]; · iexists _; iexact HB0
    isplitl [HB1]; · iexists _; iexact HB1
    isplitl [Hm']; · iexists _; iexact Hm'
    isplitl [HT]; · iexact HT
    iexact Hbufs
  isplitl [HsE Hs0 Hs1 HsO Hsems]
  · isplitl [HsE]; · iexact HsE
    isplitl [Hs0]; · iexact Hs0
    isplitl [Hs1]; · iexact Hs1
    isplitl [HsO]; · iexact HsO
    iexact Hsems
  iexists _
  isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Tile

end Cert.Proof.Sc
-- ==== Proof.Calls.lean ====
/-
  What the SparseCore call carries between the threads: each SparseCore's, and each subcore's, share of the encoding and
  of the table, and its rows of the result; how they split and join; and each subcore's obligation.
-/
module

public import proofs.«01_k».proof.Proof.Tile

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem nCore_zero : (K (F := F)).nCore 0 = 2 := rfl
theorem nSub_zero : (K (F := F)).nSub 0 = 16 := rfl

/-! ## Shares and rows -/

/-- SparseCore `c`'s share of an array both SparseCores read. -/
def coreShare (c : Fin 2) : PosShare TreeShare := Transfers.dealOf fullShare Finset.univ c

/-- Subcore `i` of SparseCore `c`'s share. -/
def tileShare (c : Fin 2) (i : Fin 16) : PosShare TreeShare := Transfers.dealOf (coreShare c) Finset.univ i

/-- The elements of the result that SparseCore `c` writes. -/
def coreRows (c : Fin 2) : Finset S32x16.Idx := Finset.univ.filter fun j => (j 0).val % 2 = c.val

theorem tileRows_disjoint (c : Fin 2) : ∀ i ∈ (Finset.univ : Finset (Fin 16)), ∀ j ∈ (Finset.univ : Finset (Fin 16)), i ≠ j → Disjoint (tileRow c i) (tileRow c j) := by
  intro i _ j _ h
  refine Finset.disjoint_left.mpr fun x hi hj => h ?_
  have hi := (Finset.mem_filter.mp hi).2
  have hj := (Finset.mem_filter.mp hj).2
  exact Fin.ext (by omega)

theorem tileRows_cover (c : Fin 2) : (Finset.univ : Finset (Fin 16)).biUnion (tileRow c) = coreRows c := by
  ext x
  have hx : (x 0).val < 32 := (x 0).isLt
  have hc := c.isLt
  constructor
  · intro h
    obtain ⟨i, -, hi⟩ := Finset.mem_biUnion.mp h
    have hi := (Finset.mem_filter.mp hi).2
    exact Finset.mem_filter.mpr ⟨Finset.mem_univ _, by omega⟩
  · intro h
    have h := (Finset.mem_filter.mp h).2
    exact Finset.mem_biUnion.mpr ⟨⟨(x 0).val / 2, by omega⟩, Finset.mem_univ _, Finset.mem_filter.mpr ⟨Finset.mem_univ _, by
      show (x 0).val = 2 * ((x 0).val / 2) + c.val
      omega⟩⟩

theorem coreRows_disjoint : ∀ i ∈ (Finset.univ : Finset (Fin 2)), ∀ j ∈ (Finset.univ : Finset (Fin 2)), i ≠ j → Disjoint (coreRows i) (coreRows j) := by
  intro i _ j _ h
  refine Finset.disjoint_left.mpr fun x hi hj => h ?_
  exact Fin.ext ((Finset.mem_filter.mp hi).2.symm.trans (Finset.mem_filter.mp hj).2)

theorem coreRows_cover : (Finset.univ : Finset (Fin 2)).biUnion coreRows = Finset.univ := by
  ext x
  refine ⟨fun _ => Finset.mem_univ _, fun _ => Finset.mem_biUnion.mpr ⟨⟨(x 0).val % 2, by omega⟩, Finset.mem_univ _, Finset.mem_filter.mpr ⟨Finset.mem_univ _, rfl⟩⟩⟩

/-! ## What the handshakes carry -/

abbrev eLoc (d : Dev nD) : Loc nD τ sig := (SparseCore.T d).loc main_v2
abbrev mLoc (d : Dev nD) : Loc nD τ sig := (SparseCore.T d).loc main_arg3
abbrev oLoc (d : Dev nD) : Loc nD τ sig := (SparseCore.T d).loc main_v3

variable (E : Dev nD → Vec F S4096 .f32) (M : Dev nD → Vec F S16384x4096 .f32)

abbrev eAt (d : Dev nD) (q : PosShare TreeShare) : sProp 𝕄 := eLoc d ↦{q} (E d : Buf (Elt F) (eLoc d))
abbrev mAt (d : Dev nD) (q : PosShare TreeShare) : sProp 𝕄 := mLoc d ↦{q} (M d : Buf (Elt F) (mLoc d))
abbrev oAt (d : Dev nD) (I : Finset S32x16.Idx) (f : Vec F S32x16 .f32) : sProp 𝕄 := oLoc d ↦[I]{fullShare} (f : Buf (Elt F) (oLoc d))

/-- The call takes, for each SparseCore, a share of the encoding and of the table and its rows of the result; each
    subcore a share of those and its row; and brings back the rows at `scOut`. -/
def P : (K (F := F)).Pay (nD := nD) (Val := Elt F) (Name := ℕ) (U := UU) where
  st := fun q d c => match q with
    | 0 => iprop(eAt E d (coreShare (Fin.cast nCore_zero c)) ∗ mAt M d (coreShare (Fin.cast nCore_zero c)) ∗ ∃ f, oAt d (coreRows (Fin.cast nCore_zero c)) f)
  dn := fun q d c => match q with
    | 0 => iprop(eAt E d (coreShare (Fin.cast nCore_zero c)) ∗ mAt M d (coreShare (Fin.cast nCore_zero c)) ∗ oAt d (coreRows (Fin.cast nCore_zero c)) (scOut (E d) (M d)))
  go := fun q d c i => match q with
    | 0 => iprop(eAt E d (tileShare (Fin.cast nCore_zero c) (Fin.cast nSub_zero i)) ∗ mAt M d (tileShare (Fin.cast nCore_zero c) (Fin.cast nSub_zero i))
        ∗ ∃ f, oAt d (tileRow (Fin.cast nCore_zero c) (Fin.cast nSub_zero i)) f)
  td := fun q d c i => match q with
    | 0 => iprop(eAt E d (tileShare (Fin.cast nCore_zero c) (Fin.cast nSub_zero i)) ∗ mAt M d (tileShare (Fin.cast nCore_zero c) (Fin.cast nSub_zero i))
        ∗ oAt d (tileRow (Fin.cast nCore_zero c) (Fin.cast nSub_zero i)) (scOut (E d) (M d)))
  x := fun _ _ => iprop(emp)

instance P_storable : (P (F := F) E M).IsStorable where
  st q d c := match q with
    | 0 => (inferInstance : BI.Storable (upEmb : UEmb _ 𝕄)
      iprop(eAt E d (coreShare (Fin.cast nCore_zero c)) ∗ mAt M d (coreShare (Fin.cast nCore_zero c)) ∗ ∃ f, oAt d (coreRows (Fin.cast nCore_zero c)) f))
  dn q d c := match q with
    | 0 => (inferInstance : BI.Storable (upEmb : UEmb _ 𝕄)
      iprop(eAt E d (coreShare (Fin.cast nCore_zero c)) ∗ mAt M d (coreShare (Fin.cast nCore_zero c)) ∗ oAt d (coreRows (Fin.cast nCore_zero c)) (scOut (E d) (M d))))
  go q d c i := match q with
    | 0 => (inferInstance : BI.Storable (upEmb : UEmb _ 𝕄)
      iprop(eAt E d (tileShare (Fin.cast nCore_zero c) (Fin.cast nSub_zero i)) ∗ mAt M d (tileShare (Fin.cast nCore_zero c) (Fin.cast nSub_zero i))
        ∗ ∃ f, oAt d (tileRow (Fin.cast nCore_zero c) (Fin.cast nSub_zero i)) f))
  td q d c i := match q with
    | 0 => (inferInstance : BI.Storable (upEmb : UEmb _ 𝕄)
      iprop(eAt E d (tileShare (Fin.cast nCore_zero c) (Fin.cast nSub_zero i)) ∗ mAt M d (tileShare (Fin.cast nCore_zero c) (Fin.cast nSub_zero i))
        ∗ oAt d (tileRow (Fin.cast nCore_zero c) (Fin.cast nSub_zero i)) (scOut (E d) (M d))))

/-! ## The subcore's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__dist_body (coordsV c s) encV (Memref.isWhole_whole _) memV (Memref.isWhole_whole _) outV (Memref.isWhole_whole _)
          eV (Memref.isWhole_whole _) b0V (Memref.isWhole_whole _) b1V (Memref.isWhole_whole _) mV (Memref.isWhole_whole _) tV (Memref.isWhole_whole _)
          cc1_scratch5 cc1_scratch6 cc1_scratch7 cc1_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P E M) v₀ 0 := by
  intro d c i O W hO _ _
  simp only [show (P (F := F) E M).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) facts (tileShare (Fin.cast nCore_zero c) (Fin.cast nSub_zero i)) (E d) (M d) O W hO).trans
    (wp_mono frame _ _ fun _ => obl_post)

/-! ## How a SparseCore's operands split into its subcores' -/

theorem deal_tiles (c : Fin 2) {ℓ : Loc nD τ sig} (f : Buf (Elt F) ℓ) :
    (ℓ ↦{coreShare c} f : sProp 𝕄) = bigSep Finset.univ fun i : Fin 16 => ℓ ↦{tileShare c i} f :=
  Transfers.pointsTo_deal Finset.univ Finset.univ_nonempty (coreShare c)

theorem deal_cores {ℓ : Loc nD τ sig} (f : Buf (Elt F) ℓ) :
    (ℓ ↦{fullShare} f : sProp 𝕄) = bigSep Finset.univ fun c : Fin 2 => ℓ ↦{coreShare c} f :=
  Transfers.pointsTo_deal Finset.univ Finset.univ_nonempty fullShare

theorem rows_tiles (d : Dev nD) (c : Fin 2) (f : Vec F S32x16 .f32) :
    (oAt d (coreRows c) f : sProp 𝕄) = bigSep Finset.univ fun i : Fin 16 => oAt d (tileRow c i) f := by
  show (oLoc d ↦[coreRows c]{fullShare} f : sProp 𝕄) = _
  rw [← tileRows_cover c, pointsTo_biUnion Finset.univ (ℓ := oLoc d) (tileRow c) (tileRows_disjoint c)]

theorem rows_cores (d : Dev nD) (f : Vec F S32x16 .f32) :
    (oLoc d ↦{fullShare} (f : Buf (Elt F) (oLoc d)) : sProp 𝕄) = bigSep Finset.univ fun c : Fin 2 => oAt d (coreRows c) f := by
  rw [← pointsTo_biUnion Finset.univ (ℓ := oLoc d) coreRows coreRows_disjoint, coreRows_cover]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem rows_any (d : Dev nD) (c : Fin 2) (f : Vec F S32x16 .f32) :
    iprop(bigSep Finset.univ fun i : Fin 16 => oAt d (tileRow c i) f) ⊢ (iprop(bigSep Finset.univ fun i : Fin 16 => iprop(∃ g, oAt d (tileRow c i) g)) : sProp 𝕄) :=
  bigSep_mono fun i _ => (show (oAt d (tileRow c i) f : sProp 𝕄) ⊢ iprop(∃ g, oAt d (tileRow c i) g) from by iintro H; iexists f; iexact H)

theorem rows_any' (d : Dev nD) (c : Fin 2) (f : Vec F S32x16 .f32) :
    iprop(oAt d (coreRows c) f) ⊢ (iprop(bigSep Finset.univ fun i : Fin 16 => iprop(∃ g, oAt d (tileRow c i) g)) : sProp 𝕄) := by
  rw [rows_tiles]; exact rows_any d c f

theorem vecSplit : (K (F := F)).VecSplit' (P E M) 0 := by
  intro d c
  show iprop(eAt E d (coreShare (Fin.cast nCore_zero c)) ∗ mAt M d (coreShare (Fin.cast nCore_zero c)) ∗ ∃ f, oAt d (coreRows (Fin.cast nCore_zero c)) f) ⊢ |={Set.univ}=> iprop(
      (bigSep Finset.univ fun i : Fin ((K (F := F)).nSub 0) =>
        iprop(eAt E d (tileShare (Fin.cast nCore_zero c) (Fin.cast nSub_zero i)) ∗ mAt M d (tileShare (Fin.cast nCore_zero c) (Fin.cast nSub_zero i))
          ∗ ∃ f, oAt d (tileRow (Fin.cast nCore_zero c) (Fin.cast nSub_zero i)) f))
      ∗ ((bigSep Finset.univ fun i : Fin ((K (F := F)).nSub 0) =>
          iprop(eAt E d (tileShare (Fin.cast nCore_zero c) (Fin.cast nSub_zero i)) ∗ mAt M d (tileShare (Fin.cast nCore_zero c) (Fin.cast nSub_zero i))
          ∗ oAt d (tileRow (Fin.cast nCore_zero c) (Fin.cast nSub_zero i)) (scOut (E d) (M d))))
          -∗ iprop(eAt E d (coreShare (Fin.cast nCore_zero c)) ∗ mAt M d (coreShare (Fin.cast nCore_zero c)) ∗ oAt d (coreRows (Fin.cast nCore_zero c)) (scOut (E d) (M d)))))
  generalize Fin.cast (nCore_zero (F := F)) c = c'
  rw [bigSep_tasks (F := F) (fun i => iprop(eAt E d (tileShare c' i) ∗ mAt M d (tileShare c' i) ∗ ∃ f, oAt d (tileRow c' i) f)),
    bigSep_tasks (F := F) (fun i => iprop(eAt E d (tileShare c' i) ∗ mAt M d (tileShare c' i) ∗ oAt d (tileRow c' i) (scOut (E d) (M d)))),
    bigSep_sep', bigSep_sep', bigSep_sep', bigSep_sep', rows_tiles]
  unfold eAt mAt
  rw [deal_tiles, deal_tiles]
  iintro ⟨He, Hm, ⟨%f, Ho⟩⟩
  imodintro
  isplitl [He Hm Ho]
  · isplitl [He]; · iexact He
    isplitl [Hm]; · iexact Hm
    ihave Ho' := (rows_any' d c' f) $$ Ho
    iexact Ho'
  iintro ⟨He, Hm, Ho⟩
  isplitl [He]; · iexact He
  isplitl [Hm]; · iexact Hm
  iexact Ho

end Cert.Proof.Sc
-- ==== Proof.Region.lean ====
/-
  The two TensorCore kernels as @main calls them: each, from the TensorCore's state around the SparseCore calls and its
  arrays, runs to the same state and its result's array at what the kernel computes.
-/
module

public import proofs.«01_k».proof.Proof.Scan
public import proofs.«01_k».proof.Proof.Calls
public import Idealize.ShloMosaic.Lib.Pipeline.RegionArrays
public import Idealize.ShloMosaic.Lib.Pipeline.FrameBody

@[expose] public section

noncomputable section

namespace Cert.Proof.Sc

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose RegionSeg PLaunchFacts₀ OwnSemFacts cellOf pin)

variable {F : FTy → Type} [FloatOps F]

local notation "𝕄" => MT nD τ sig (HIx 1) (Elt F) ℕ UU ℕ

variable [∀ e, Nonempty (Elt F e)]

/-- No pipeline prefetches a table. -/
abbrev adm : (p : Fin 2) → (pcfgs (F := F) p).Adm := fun p => (cfgs p).toPCfg_adm

theorem cells_inj : Function.Injective (cellOf (nD := nD) (τ := τ) (pin (pcfgs (F := F)) adm)) := cellOf_inj

section Call

variable (pdats : (p : Fin 2) → (c : Dev nD) → Dat τ (Elt F) (HIx 1) ℕ UU ℕ (pin (pcfgs (F := F)) adm p) c)

/-- A TensorCore kernel's region while the TensorCore owes what it owes before SparseCore call `n`. -/
def region (p : Fin 2) (n : ℕ) (kit : PLaunchFacts₀ (nD := nD) (τ := τ) (pcfgs (F := F)) p) (hK : (pcfgs (F := F) p).pre.K = 0)
    (hbody : ∀ c, BodyObligationLoose (pdats p c) (defs₀ (F := F)) 𝒱₀ none Set.univ)
    (howed : ∀ c t, (pdats p c).owed t = (K (F := F)).Otc c n) (hrec : ∀ c t, (pdats p c).recorded t = below (F := F) c n)
    (hin : ∀ c, (Pipeline.scopedRest (pin (pcfgs (F := F)) adm p).spec c : sProp 𝕄) ⊢ (pdats p c).Φ 0)
    (hout : ∀ c, (pdats p c).Φ (Fin.last (pin (pcfgs (F := F)) adm p).N) ⊢ (Pipeline.scopedRest (pin (pcfgs (F := F)) adm p).spec c : sProp 𝕄)) :
    RegionSeg (pcfgs (F := F)) adm pdats none (defs₀ (F := F)) 𝒱₀ (K (F := F)).L (K (F := F)).lev p where
  win := kit.win
  block_pos := kit.block_pos
  stage_whole := kit.stage_whole
  K := PEmpty
  osem k := k.elim
  ho := OwnSemFacts.none _
  hbody := hbody
  hwaits c := Pipeline.cellsWaits_of_cut (pin (pcfgs (F := F)) adm) pdats none p c 0 ((K (F := F)).Otc c n) (howed c)
    (fun _ _ => Finset.mem_univ _) (fun _ _ => le_rfl)
    (fun g i h => ⟨Finset.mem_univ _, lt_of_lt_of_le (Nat.succ_pos _) ((K (F := F)).lev_of_Otc_pos h)⟩)
  pre c := iprop((pdats p c).arrays ((pdats p c).arrAt · 0) ∗ ∃ W, ⌜(K (F := F)).WBelow (T c) W (8 * n)⌝ ∗ owes (T c) ((K (F := F)).Otc c n) W)
  post c := iprop((pdats p c).arrays ((pdats p c).arrAt · (pin (pcfgs (F := F)) adm p).N)
    ∗ ∃ W, ⌜(K (F := F)).WBelow (T c) W (8 * n)⌝ ∗ owes (T c) ((K (F := F)).Otc c n) W)
  X _ := iprop(emp)
  Y _ := iprop(emp)
  Z _ := iprop(emp)
  hentry c := by
    rw [Pipeline.ownSems0_none, Pipeline.prefHeld_of_none _ hK]
    iintro ⟨⟨Ha, %W, %hW, HO⟩, -, -⟩
    imodintro
    isplitl [Ha]; · iexact Ha
    isplitr; · iempintro
    isplitl [HO]
    · iexists W
      isplitr
      · ipureintro; intro q hq
        exact Or.inl (by rw [hrec c 0]; exact hW q hq)
      rw [howed c 0]; iexact HO
    isplitr <;> iempintro
  hin c := by
    iintro ⟨-, -, H⟩
    iapply (hin c); iexact H
  hout c := by
    rw [Pipeline.ownSems0_none]
    iintro H
    isplitr; · iempintro
    isplitr; · iempintro
    iapply (hout c); iexact H
  hexit c := by
    iintro ⟨Ha, ⟨%W, %hW, HO⟩, -, -⟩
    imodintro
    isplitl [Ha]; · iexact Ha
    iexists W
    isplitr
    · ipureintro; intro q hq
      rcases hW hq with h | ⟨w, s, h⟩
      · rw [hrec c (Fin.last _)] at h; exact h
      · rw [h]; exact Nat.zero_le _
    rw [← howed c (Fin.last _)]; iexact HO

end Call

end Cert.Proof.Sc
-- ==== Proof.Host.lean ====
/-
  The host's steps in @main, each over just the arrays it touches: a reshape, a constant, an operation of two arrays.
-/
module

public import proofs.«01_k».proof.Proof.Region
public import Idealize.ShloMosaic.Lib.Pipeline.RegionArrays
public import Idealize.ShloMosaic.Lib.Pipeline.FrameBody

@[expose] public section

noncomputable section

namespace Cert.Proof.Sc

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose RegionSeg PLaunchFacts₀ OwnSemFacts cellOf pin)

variable {F : FTy → Type} [FloatOps F]

local notation "𝕄" => MT nD τ sig (HIx 1) (Elt F) ℕ UU ℕ

/-- Array `r` of device `d`, whole, at `v`. -/
abbrev at_ (d : Dev nD) (r : Ref sig .tc) (v : Buf (Elt F) ((d : Thread nD τ).loc r)) : sProp 𝕄 := ((d : Thread nD τ).loc r) ↦{fullShare} v

/-- The weakest precondition of a piece of @main on device `d`'s TensorCore. -/
abbrev wpMain (d : Dev nD) {α : Type} (p : Prog (TpuEff nD τ sig (Elt F) (SparseCore.Sig (ΛP (F := F)) 1) .tc) α) (Q : α → sProp 𝕄) : sProp 𝕄 :=
  wp frame (wpE ((K (F := F)).defs (D (F := F))) 𝒱 (SparseCore.T d) none) Set.univ p Q

/-- Contents with `v` at array `y`. -/
def upd (V : Valuation τ sig (Elt F)) (y : Ref sig .tc) (v : y.ty.Contents (Elt F)) : Valuation τ sig (Elt F) :=
  Function.update V (Proc.devRef .tc y) v

theorem upd_same (V : Valuation τ sig (Elt F)) (y : Ref sig .tc) (v : y.ty.Contents (Elt F)) : upd V y v (Proc.devRef .tc y) = v := Function.update_self _ _ _

theorem upd_other (V : Valuation τ sig (Elt F)) {y r : Ref sig .tc} (v : y.ty.Contents (Elt F)) (h : r ≠ y) :
    upd V y v (Proc.devRef .tc r) = V (Proc.devRef .tc r) := Function.update_of_ne (StableHlo.devRef_ne_of_ne h) _ _

theorem notMem_one {x y : Ref sig .tc} (h : x ≠ y) : (Proc.devRef (τ := τ) .tc x) ∉ ({Proc.devRef .tc y} : Finset (DevRef τ sig)) := by
  rw [Finset.mem_singleton]; exact StableHlo.devRef_ne_of_ne h

theorem notMem_two {x y z : Ref sig .tc} (h : x ≠ y) (h' : x ≠ z) :
    (Proc.devRef (τ := τ) .tc x) ∉ ({Proc.devRef .tc y, Proc.devRef .tc z} : Finset (DevRef τ sig)) := by
  rw [Finset.mem_insert]; exact not_or.mpr ⟨StableHlo.devRef_ne_of_ne h, notMem_one h'⟩

/-- Writing a constant. -/
theorem step_nullary (V : Valuation τ sig (Elt F)) (d : Dev nD) (y : Ref sig .tc) (v : y.ty.Contents (Elt F)) (hy) (vy : y.ty.Contents (Elt F)) (Q : PUnit → sProp 𝕄) :
    iprop(boundary (SparseCore.T d) ∗ at_ d y vy ∗ ((boundary (SparseCore.T d) ∗ at_ d y v) -∗ Q ⟨⟩))
      ⊢ wpMain d (hlo rfl (StableHlo.nullary y v hy) (fun _ => .ret ⟨⟩)) Q := by
  iintro ⟨Hb, Hy, Hk⟩
  iapply (wp_hlo 𝒱 (SparseCore.T d) none Set.univ (op := StableHlo.nullary y v hy) (q := fun _ => fullShare) (F := upd V y vy) (fun _ _ => rfl)) $$ [Hb Hy]
  · isplitl [Hb]; · iexact Hb
    rw [StableHlo.nullary_bufs, bigSep_singleton, upd_same]
    iexact Hy
  rw [StableHlo.nullary_bufs, bigSep_singleton, StableHlo.nullary_result, wp_ret]
  iintro H
  imodintro
  iapply Hk; iexact H

/-- Reading one array as another of the same elements. -/
theorem step_reshape (V : Valuation τ sig (Elt F)) (d : Dev nD) (x y : Ref sig .tc) (he : x.ty.elt = y.ty.elt) (hn) (hx hy) (h : x ≠ y) (vx : x.ty.Contents (Elt F)) (vy : y.ty.Contents (Elt F)) (Q : PUnit → sProp 𝕄) :
    iprop(boundary (SparseCore.T d) ∗ at_ d x vx ∗ at_ d y vy ∗ ((boundary (SparseCore.T d) ∗ at_ d x vx ∗ at_ d y (fun i => he ▸ shapeCast y.ty.shape vx hn i)) -∗ Q ⟨⟩))
      ⊢ wpMain d (hlo rfl (StableHlo.reshape x y he hn hx hy) (fun _ => .ret ⟨⟩)) Q := by
  iintro ⟨Hb, Hx, Hy, Hk⟩
  iapply (wp_hlo 𝒱 (SparseCore.T d) none Set.univ (op := StableHlo.reshape x y he hn hx hy) (q := fun _ => fullShare) (F := upd (upd V y vy) x vx) (fun _ _ => rfl)) $$ [Hb Hx Hy]
  · isplitl [Hb]; · iexact Hb
    rw [StableHlo.reshape_bufs, SparseCore.bigSep_insert' (notMem_one h), bigSep_singleton, upd_same, upd_other _ _ h.symm, upd_same]
    isplitl [Hx]; · iexact Hx
    iexact Hy
  rw [StableHlo.reshape_bufs, SparseCore.bigSep_insert' (notMem_one h), bigSep_singleton, StableHlo.reshape_result, StableHlo.reshape_result_ne (h := h), upd_same, wp_ret]
  iintro H
  imodintro
  iapply Hk; iexact H

/-- An operation of two arrays. -/
theorem step_binary (V : Valuation τ sig (Elt F)) (d : Dev nD) (x y z : Ref sig .tc) (f : x.ty.Contents (Elt F) → y.ty.Contents (Elt F) → z.ty.Contents (Elt F)) (hx hy hz) (h : x ≠ y) (h' : x ≠ z) (h'' : y ≠ z)
    (vx : x.ty.Contents (Elt F)) (vy : y.ty.Contents (Elt F)) (vz : z.ty.Contents (Elt F)) (Q : PUnit → sProp 𝕄) :
    iprop(boundary (SparseCore.T d) ∗ at_ d x vx ∗ at_ d y vy ∗ at_ d z vz ∗ ((boundary (SparseCore.T d) ∗ at_ d x vx ∗ at_ d y vy ∗ at_ d z (f vx vy)) -∗ Q ⟨⟩))
      ⊢ wpMain d (hlo rfl (StableHlo.binary x y z f hx hy hz) (fun _ => .ret ⟨⟩)) Q := by
  iintro ⟨Hb, Hx, Hy, Hz, Hk⟩
  iapply (wp_hlo 𝒱 (SparseCore.T d) none Set.univ (op := StableHlo.binary x y z f hx hy hz) (q := fun _ => fullShare) (F := upd (upd (upd V z vz) y vy) x vx) (fun _ _ => rfl)) $$ [Hb Hx Hy Hz]
  · isplitl [Hb]; · iexact Hb
    rw [StableHlo.binary_bufs, SparseCore.bigSep_insert' (notMem_two h h'), SparseCore.bigSep_insert' (notMem_one h''), bigSep_singleton, upd_same,
      upd_other _ _ h.symm, upd_same, upd_other _ _ h'.symm, upd_other _ _ h''.symm, upd_same]
    isplitl [Hx]; · iexact Hx
    isplitl [Hy]; · iexact Hy
    iexact Hz
  rw [StableHlo.binary_bufs, SparseCore.bigSep_insert' (notMem_two h h'), SparseCore.bigSep_insert' (notMem_one h''), bigSep_singleton, StableHlo.binary_result,
    StableHlo.binary_result_ne (h := h'), StableHlo.binary_result_ne (h := h''), upd_same, upd_other _ _ h.symm, upd_same, wp_ret]
  iintro H
  imodintro
  iapply Hk; iexact H

end Cert.Proof.Sc
-- ==== Proof.Steps.lean ====
/-
  The two TensorCore kernels' steps in @main, over the arrays they touch.
-/
module

public import proofs.«01_k».proof.Proof.Host

@[expose] public section

noncomputable section

namespace Cert.Proof.Sc

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose RegionSeg PLaunchFacts₀ OwnSemFacts cellOf pin cellsGhost toksInit)

variable {F : FTy → Type} [FloatOps F]

local notation "𝕄" => MT nD τ sig (HIx 1) (Elt F) ℕ UU ℕ

variable (x : Dev nD → Vec F S1x2048 .f32) (D' : Dev nD → Vec F S16384x2048 .f32) (W : Dev nD → Vec F S2048x4096 .f32)
  (b o : Dev nD → Vec F S1x4096 .f32) (E : Dev nD → Vec F S1x4096 .f32) (M : Dev nD → Vec F S16384x4096 .f32) (o2 : Dev nD → Vec F S1x1 .f32)

/-- The two kernels' proof data. -/
def pdats : (p : Fin 2) → (c : Dev nD) → Dat τ (Elt F) (HIx 1) ℕ UU ℕ (pin (pcfgs (F := F)) adm p) c
  | ⟨0, _⟩ => dat0 x D' W b o
  | ⟨1, _⟩ => dat2 E M o2

theorem own_any (c : Dev nD) (r : Ref sig .tc) (X : Buf (Elt F) ((c : Thread nD τ).loc r)) :
    owns (c : Thread nD τ) (Memref.whole r) fullShare X = (((c : Thread nD τ).loc r) ↦{fullShare} X : sProp 𝕄) := owns_whole _ _ _ _

theorem own_put (c : Dev nD) (r : Ref sig .tc) (X : Buf (Elt F) ((c : Thread nD τ).loc r)) :
    (((c : Thread nD τ).loc r) ↦{fullShare} X : sProp 𝕄) ⊢ owns (c : Thread nD τ) (Memref.whole r) fullShare X := BIBase.Entails.of_eq (own_any c r X).symm

theorem own_get (c : Dev nD) (r : Ref sig .tc) (X : Buf (Elt F) ((c : Thread nD τ).loc r)) :
    owns (c : Thread nD τ) (Memref.whole r) fullShare X ⊢ (((c : Thread nD τ).loc r) ↦{fullShare} X : sProp 𝕄) := BIBase.Entails.of_eq (own_any c r X)

theorem phi0_start (c : Dev nD) : (Pipeline.scopedRest spec0 c : sProp 𝕄) ⊢ phi0 x D' W c 0 := by
  rw [scopedRest0_eq]
  unfold phi0
  iintro ⟨⟨%s, Hs⟩, ⟨%q, Hq⟩, ⟨%v, Hv⟩, ⟨%a, Ha⟩, Hr⟩
  isplitl [Hs]
  · iexists s; isplitr; · ipureintro; intro h; omega
    iapply (own_put c cc0_scratch0 s); iexact Hs
  isplitl [Hq]
  · iexists q; isplitr; · ipureintro; intro h; omega
    iapply (own_put c cc0_scratch1 q); iexact Hq
  isplitl [Hv]
  · iexists v; isplitr; · ipureintro; intro h; omega
    iapply (own_put c cc0_scratch2 v); iexact Hv
  isplitl [Ha]
  · iexists a; isplitr; · ipureintro; intro h; omega
    iapply (own_put c cc0_scratch3 a); iexact Ha
  iexact Hr

theorem phi0_end (c : Dev nD) (n : ℕ) : phi0 x D' W c n ⊢ (Pipeline.scopedRest spec0 c : sProp 𝕄) := by
  rw [scopedRest0_eq]
  unfold phi0
  iintro ⟨⟨%s, -, Hs⟩, ⟨%q, -, Hq⟩, ⟨%v, -, Hv⟩, ⟨%a, -, Ha⟩, Hr⟩
  isplitl [Hs]
  · iexists s; iapply (own_get c cc0_scratch0 s); iexact Hs
  isplitl [Hq]
  · iexists q; iapply (own_get c cc0_scratch1 q); iexact Hq
  isplitl [Hv]
  · iexists v; iapply (own_get c cc0_scratch2 v); iexact Hv
  isplitl [Ha]
  · iexists a; iapply (own_get c cc0_scratch3 a); iexact Ha
  iexact Hr

theorem phi2_start (c : Dev nD) : (Pipeline.scopedRest spec2 c : sProp 𝕄) ⊢ phi2 E M c 0 := by
  rw [scopedRest2_eq]
  unfold phi2
  iintro ⟨H1, H2, H3, H4, H5, H6, H7, H8, H9, H10, H11, ⟨%g, Hg⟩⟩
  isplitl [Hg]
  · iexists g (ix1 (0 : Fin 1)); isplitr; · ipureintro; intro h; omega
    iapply (own_put c cc2_scratch0 fun _ => g (ix1 (0 : Fin 1)))
    rw [show (fun _ => g (ix1 (0 : Fin 1))) = g from funext fun j => congrArg g ((congrArg ix1 (Subsingleton.elim (0 : Fin 1) (j 0))).trans (eq_ix1 j).symm)]; iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem phi2_end (c : Dev nD) (n : ℕ) : phi2 E M c n ⊢ (Pipeline.scopedRest spec2 c : sProp 𝕄) := by
  rw [scopedRest2_eq]
  unfold phi2
  iintro ⟨⟨%g, -, Hg⟩, H1, H2, H3, H4, H5, H6, H7, H8, H9, H10, H11⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists (fun _ => g); iapply (own_get c cc2_scratch0 fun _ => g); iexact Hg

variable [∀ e, Nonempty (Elt F e)]

/-- The encoder's region. -/
def region0 : RegionSeg (pcfgs (F := F)) adm (pdats x D' W b o E M o2) none (defs₀ (F := F)) 𝒱₀ (K (F := F)).L (K (F := F)).lev 0 :=
  region (pdats x D' W b o E M o2) 0 0 launch0.toP.to₀ rfl (fun c => (body_obligation0 x D' W b o c).loose) (fun _ _ => rfl) (fun _ _ => rfl)
    (fun c => phi0_start x D' W c) (fun c => phi0_end x D' W c _)

/-- The scan's region. -/
def region2 : RegionSeg (pcfgs (F := F)) adm (pdats x D' W b o E M o2) none (defs₀ (F := F)) 𝒱₀ (K (F := F)).L (K (F := F)).lev 1 :=
  region (pdats x D' W b o E M o2) 1 1 launch2.toP.to₀ rfl (fun c => (body_obligation2 E M o2 c).loose) (fun _ _ => rfl) (fun _ _ => rfl)
    (fun c => phi2_start E M c) (fun c => phi2_end E M c _)

theorem arrays0 (c : Dev nD) (n : ℕ) (r : Vec F S1x4096 .f32) (hr : (dat0 x D' W b o c).arrAt 4 n = r) :
    ((pdats x D' W b o E M o2 0 c).arrays ((pdats x D' W b o E M o2 0 c).arrAt · n) : sProp 𝕄)
      = iprop(at_ c main_arg0 (x c) ∗ at_ c main_arg4 (D' c) ∗ at_ c main_arg1 (W c) ∗ at_ c main_v0 (b c) ∗ at_ c main_v1 r) := by
  rw [Pipeline.arrays_eq (p := 0) (pin (pcfgs (F := F)) adm) (pdats x D' W b o E M o2) c arr_whole0 (Dat.share_full _ fun _ => rfl)]
  show (bigSep (Finset.univ : Finset (Fin 5)) fun w => ((c : Thread nD τ).loc (Pipeline.arrRef spec0 w)) ↦{fullShare} (dat0 x D' W b o c).arrAt w n) = _
  rw [bigSep_W0]
  rw [hr, (dat0 x D' W b o c).arrAt_in 0 rfl n, (dat0 x D' W b o c).arrAt_in 1 rfl n, (dat0 x D' W b o c).arrAt_in 2 rfl n, (dat0 x D' W b o c).arrAt_in 3 rfl n]
  rfl

theorem arrays2 (c : Dev nD) (n : ℕ) (r : Vec F S1x1 .f32) (hr : (dat2 E M o2 c).arrAt 2 n = r) :
    ((pdats x D' W b o E M o2 1 c).arrays ((pdats x D' W b o E M o2 1 c).arrAt · n) : sProp 𝕄)
      = iprop(at_ c main_v1 (E c) ∗ at_ c main_arg3 (M c) ∗ at_ c main_v4 r) := by
  rw [Pipeline.arrays_eq (p := 1) (pin (pcfgs (F := F)) adm) (pdats x D' W b o E M o2) c arr_whole2 (Dat.share_full _ fun _ => rfl)]
  show (bigSep (Finset.univ : Finset (Fin 3)) fun w => ((c : Thread nD τ).loc (Pipeline.arrRef spec2 w)) ↦{fullShare} (dat2 E M o2 c).arrAt w n) = _
  rw [bigSep_W2]
  rw [hr, (dat2 E M o2 c).arrAt_in 0 rfl n, (dat2 E M o2 c).arrAt_in 1 rfl n]
  rfl

/-- A TensorCore kernel's call: its region run from the TensorCore's state to the same state. -/
theorem step_call (d : Dev nD) (p : Fin 2) (n : ℕ)
    (R : RegionSeg (pcfgs (F := F)) adm (pdats x D' W b o E M o2) none (defs₀ (F := F)) 𝒱₀ (K (F := F)).L (K (F := F)).lev p)
    (A B : sProp 𝕄)
    (hpre : R.pre d = iprop(A ∗ ∃ W, ⌜(K (F := F)).WBelow (T d) W (8 * n)⌝ ∗ owes (T d) ((K (F := F)).Otc d n) W))
    (hpost : R.post d = iprop(B ∗ ∃ W, ⌜(K (F := F)).WBelow (T d) W (8 * n)⌝ ∗ owes (T d) ((K (F := F)).Otc d n) W))
    (Q : PUnit → sProp 𝕄) :
    iprop((boundary (T d) ∗ (K (F := F)).tcSt EH d n ∗ A) ∗ levAts (K (F := F)).L (K (F := F)).lev
        ∗ (cellsGhost (pin (pcfgs (F := F)) adm) EP p d ∗ toksInit (pin (pcfgs (F := F)) adm) EP p d)
        ∗ ((boundary (T d) ∗ (K (F := F)).tcSt EH d n ∗ B) -∗ Q ⟨⟩))
      ⊢ wpMain d (Prog.lift (.customCall (SparseCore.inner (Pipeline.entry p)) ())) Q := by
  refine BIBase.Entails.trans ?_ ((K (F := F)).wp_liftProg (D (F := F)) 𝒱 (T d) Set.univ none (.op (.customCall (Pipeline.entry p) ()) .ret) Q)
  refine BIBase.Entails.trans ?_ (RegionSeg.wp (pcfgs (F := F)) adm (pdats x D' W b o E M o2) none cells_inj EP (defs₀ (F := F)) 𝒱₀ (K (F := F)).L (K (F := F)).lev R d none
    (by intro u hu; exact absurd hu (by simp)) .ret Q)
  rw [hpre, hpost]
  unfold SparseCore.Cfg.tcSt
  iintro ⟨⟨Hb, ⟨Ho, Hst⟩, HA⟩, HL, ⟨Hg, Ht⟩, Hk⟩
  isplitl [Hk Hst]
  · iintro ⟨Hb, HB, Ho⟩
    rw [wp_ret]; imodintro
    iapply Hk
    isplitl [Hb]; · iexact Hb
    isplitl [Ho Hst]
    · isplitl [Ho]; · iexact Ho
      iexact Hst
    iexact HB
  isplitl [Hb]; · iexact Hb
  isplitl [HA Ho]
  · isplitl [HA]; · iexact HA
    iexact Ho
  isplitl [HL]; · iexact HL
  isplitl [Hg]; · iexact Hg
  iexact Ht

include x D' W b o E M o2

/-- The encoder's call. -/
theorem step_enc (d : Dev nD) (Q : PUnit → sProp 𝕄) :
    iprop((boundary (T d) ∗ (K (F := F)).tcSt EH d 0 ∗ at_ d main_arg0 (x d) ∗ at_ d main_arg4 (D' d) ∗ at_ d main_arg1 (W d) ∗ at_ d main_v0 (b d) ∗ at_ d main_v1 (o d))
        ∗ levAts (K (F := F)).L (K (F := F)).lev ∗ (cellsGhost (pin (pcfgs (F := F)) adm) EP 0 d ∗ toksInit (pin (pcfgs (F := F)) adm) EP 0 d)
        ∗ ((boundary (T d) ∗ (K (F := F)).tcSt EH d 0 ∗ at_ d main_arg0 (x d) ∗ at_ d main_arg4 (D' d) ∗ at_ d main_arg1 (W d) ∗ at_ d main_v0 (b d)
          ∗ at_ d main_v1 (encOut (x d) (D' d) (W d) (b d))) -∗ Q ⟨⟩))
      ⊢ wpMain d (Prog.lift (.customCall (SparseCore.inner (Pipeline.entry 0)) ())) Q :=
  step_call x D' W b o E M o2 d 0 0 (region0 x D' W b o E M o2) _ _
    (congrArg (fun A => iprop(A ∗ ∃ W, ⌜(K (F := F)).WBelow (T d) W (8 * 0)⌝ ∗ owes (T d) ((K (F := F)).Otc d 0) W)) (arrays0 x D' W b o E M o2 d 0 (o d) rfl))
    (congrArg (fun A => iprop(A ∗ ∃ W, ⌜(K (F := F)).WBelow (T d) W (8 * 0)⌝ ∗ owes (T d) ((K (F := F)).Otc d 0) W))
      (arrays0 x D' W b o E M o2 d cfg0.N _ (arr0_out x D' W b o d))) Q

/-- The scan's call. -/
theorem step_scan (d : Dev nD) (Q : PUnit → sProp 𝕄) :
    iprop((boundary (T d) ∗ (K (F := F)).tcSt EH d 1 ∗ at_ d main_v1 (E d) ∗ at_ d main_arg3 (M d) ∗ at_ d main_v4 (o2 d))
        ∗ levAts (K (F := F)).L (K (F := F)).lev ∗ (cellsGhost (pin (pcfgs (F := F)) adm) EP 1 d ∗ toksInit (pin (pcfgs (F := F)) adm) EP 1 d)
        ∗ ((boundary (T d) ∗ (K (F := F)).tcSt EH d 1 ∗ at_ d main_v1 (E d) ∗ at_ d main_arg3 (M d) ∗ at_ d main_v4 (scanOut (E d) (M d))) -∗ Q ⟨⟩))
      ⊢ wpMain d (Prog.lift (.customCall (SparseCore.inner (Pipeline.entry 1)) ())) Q :=
  step_call x D' W b o E M o2 d 1 1 (region2 x D' W b o E M o2) _ _
    (congrArg (fun A => iprop(A ∗ ∃ W, ⌜(K (F := F)).WBelow (T d) W (8 * 1)⌝ ∗ owes (T d) ((K (F := F)).Otc d 1) W)) (arrays2 x D' W b o E M o2 d 0 (o2 d) rfl))
    (congrArg (fun A => iprop(A ∗ ∃ W, ⌜(K (F := F)).WBelow (T d) W (8 * 1)⌝ ∗ owes (T d) ((K (F := F)).Otc d 1) W))
      (arrays2 x D' W b o E M o2 d cfg2.N _ (arr2_out E M o2 d))) Q

end Cert.Proof.Sc
-- ==== Proof.Main.lean ====
/-
  @main on the TensorCore: the encoder, the SparseCores' scan of the table's first rows, the TensorCore's scan of the
  rest, and the least of the two; and the whole program's run.
-/
module

public import proofs.«01_k».proof.Proof.Steps

@[expose] public section

noncomputable section

namespace Cert.Proof.Sc

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose RegionSeg PLaunchFacts₀ OwnSemFacts cellOf pin cellsGhost toksInit)

variable {F : FTy → Type} [FloatOps F]

local notation "𝕄" => MT nD τ sig (HIx 1) (Elt F) ℕ UU ℕ

variable (m : (ℓ : Loc nD τ sig) → Buf (Elt F) ℓ) (ρ : Dev nD → PrngReg)

/-! ## What each array of @main comes to hold -/

abbrev xIn (d : Dev nD) : Vec F S1x2048 .f32 := m ((d : Thread nD τ).loc main_arg0)
abbrev wIn (d : Dev nD) : Vec F S2048x4096 .f32 := m ((d : Thread nD τ).loc main_arg1)
abbrev bIn (d : Dev nD) : Vec F S4096 .f32 := m ((d : Thread nD τ).loc main_arg2)
abbrev memIn (d : Dev nD) : Vec F S16384x4096 .f32 := m ((d : Thread nD τ).loc main_arg3)
abbrev dataIn (d : Dev nD) : Vec F S16384x2048 .f32 := m ((d : Thread nD τ).loc main_arg4)

/-- The bias as a row. -/
def bRow (b : Vec F S4096 .f32) : Vec F S1x4096 .f32 := fun i => shapeCast S1x4096 b shapeCasts_S4096_S1x4096 i

/-- The encoding, as a row, -/
def encRow (x : Vec F S1x2048 .f32) (D : Vec F S16384x2048 .f32) (W : Vec F S2048x4096 .f32) (b : Vec F S4096 .f32) : Vec F S1x4096 .f32 :=
  encOut x D W (bRow b)

/-- and as a vector. -/
def encVec (e : Vec F S1x4096 .f32) : Vec F S4096 .f32 := fun i => shapeCast S4096 e shapeCasts_S1x4096_S4096 i

/-- The least distance, from the encoding and the table. -/
def least (e : Vec F S1x4096 .f32) (M : Vec F S16384x4096 .f32) : Vec F S_ .f32 :=
  minimumf (Host.reduce FloatOps.minimumf (scOut (encVec e) M) (constant S_ .f32 0x7F800000#32) reducesTo_S32x16_S_d0_1 h_S_)
    (fun i => shapeCast S_ (scanOut e M) shapeCasts_S1x1_S_ i)

abbrev bR (d : Dev nD) : Vec F S1x4096 .f32 := bRow (bIn m d)
abbrev encRowAt (d : Dev nD) : Vec F S1x4096 .f32 := encRow (xIn m d) (dataIn m d) (wIn m d) (bIn m d)
abbrev encAt (d : Dev nD) : Vec F S4096 .f32 := encVec (encRowAt m d)
abbrev outAt (d : Dev nD) : Vec F S_ .f32 := least (encRowAt m d) (memIn m d)

/-! ## The launch's ghost state -/

variable [∀ e, Nonempty (Elt F e)]

/-- What funds the handshakes of the SparseCore call and the two pipelines. -/
def u₀ : UU := (initOf (K (F := F)).hsCells (K (F := F)).hsToks,
  (initOf (Pipeline.cells (pin (pcfgs (F := F)) adm) cells_inj) (Pipeline.launchToks (pin (pcfgs (F := F)) adm) cells_inj), 1))

/-- A device's share of the pipelines' ghost state. -/
abbrev G (d : Dev nD) : sProp 𝕄 :=
  iprop((cellsGhost (pin (pcfgs (F := F)) adm) EP 0 d ∗ toksInit (pin (pcfgs (F := F)) adm) EP 0 d)
    ∗ (cellsGhost (pin (pcfgs (F := F)) adm) EP 1 d ∗ toksInit (pin (pcfgs (F := F)) adm) EP 1 d))

theorem bigSep_emp' {I : Type} (s : Finset I) : (bigSep s fun _ => iprop(emp)) = (iprop(emp) : sProp 𝕄) := bigSep_emp_const s

theorem two_pipes (Φ : Dev nD → Fin 2 → sProp 𝕄) :
    (bigSep Finset.univ fun c : Dev nD => bigSep Finset.univ fun p : Fin 2 => Φ c p) = bigSep Finset.univ fun c : Dev nD => iprop(Φ c 0 ∗ Φ c 1) :=
  bigSep_congr fun c _ => by
    rw [show (Finset.univ : Finset (Fin 2)) = {0, 1} by decide, SparseCore.bigSep_insert' (by decide), bigSep_singleton]

theorem gather_ghost :
    iprop((bigSep Finset.univ fun c : Dev nD => bigSep Finset.univ fun p : Fin 2 => cellsGhost (pin (pcfgs (F := F)) adm) EP p c)
      ∗ (bigSep Finset.univ fun c : Dev nD => bigSep Finset.univ fun p : Fin 2 => toksInit (pin (pcfgs (F := F)) adm) EP p c))
      ⊢ (iprop(bigSep Finset.univ fun d : Dev nD => G (F := F) d) : sProp 𝕄) := by
  rw [two_pipes, two_pipes, ← bigSep_sep']
  refine bigSep_mono fun c _ => ?_
  exact (show iprop((cellsGhost (pin (pcfgs (F := F)) adm) EP 0 c ∗ cellsGhost (pin (pcfgs (F := F)) adm) EP 1 c)
      ∗ (toksInit (pin (pcfgs (F := F)) adm) EP 0 c ∗ toksInit (pin (pcfgs (F := F)) adm) EP 1 c)) ⊢ G (F := F) c from by
    iintro ⟨⟨H1, H2⟩, H3, H4⟩
    isplitl [H1 H3]
    · isplitl [H1] <;> iassumption
    isplitl [H2] <;> iassumption)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (encAt m) (memIn m)).x q thr) := by
  unfold u₀
  iintro Hu
  ihave H := (ownU_pair _ _) $$ Hu
  icases H with ⟨HH, HR⟩
  ihave HR' := (own_pair_emb embR _ _) $$ HR
  icases HR' with ⟨HP, -⟩
  imod (Pipeline.fund_ghost (pin (pcfgs (F := F)) adm) EP cells_inj) $$ [HP] with ⟨Hg, Ht⟩
  · iexact HP
  imodintro
  isplitl [HH]; · iexact HH
  isplitl [Hg Ht]
  · iapply (gather_ghost (F := F))
    isplitl [Hg]; · iexact Hg
    iexact Ht
  rw [show (bigSep Finset.univ fun thr : Thread nD τ => bigSep Finset.univ fun q : Fin 1 => (P (F := F) (encAt m) (memIn m)).x q thr) = bigSep Finset.univ fun _ => iprop(emp) from
    bigSep_congr fun _ _ => bigSep_univ_of_subsingleton (0 : Fin 1), bigSep_emp']
  iempintro

/-! ## @main on the TensorCore -/

theorem unscopedBufs_eq (d : Dev nD) (w : (b : Ref sig .tc) → Buf (Elt F) ((d : Thread nD τ).loc b)) :
    (unscopedBufs d w : sProp 𝕄) = iprop(at_ d main_arg0 (w main_arg0) ∗ at_ d main_arg1 (w main_arg1) ∗ at_ d main_arg2 (w main_arg2) ∗ at_ d main_arg3 (w main_arg3)
      ∗ at_ d main_arg4 (w main_arg4) ∗ at_ d main_v0 (w main_v0) ∗ at_ d main_v1 (w main_v1) ∗ at_ d main_v2 (w main_v2) ∗ at_ d main_v3 (w main_v3) ∗ at_ d main_v4 (w main_v4)
      ∗ at_ d main_cst (w main_cst) ∗ at_ d main_v5 (w main_v5) ∗ at_ d main_v6 (w main_v6) ∗ at_ d main_v7 (w main_v7)) := by
  unfold unscopedBufs
  rw [show (Finset.univ.filter fun b : Ref sig .tc => ¬ b.isScoped)
      = {main_arg0, main_arg1, main_arg2, main_arg3, main_arg4, main_v0, main_v1, main_v2, main_v3, main_v4, main_cst, main_v5, main_v6, main_v7} by decide]
  repeat rw [SparseCore.bigSep_insert' (by decide)]
  rw [bigSep_singleton]

theorem cores_any (d : Dev nD) (f : Vec F S32x16 .f32) :
    iprop(bigSep Finset.univ fun c : Fin 2 => oAt d (coreRows c) f) ⊢ (iprop(bigSep Finset.univ fun c : Fin 2 => iprop(∃ g, oAt d (coreRows c) g)) : sProp 𝕄) :=
  bigSep_mono fun c _ => (show (oAt d (coreRows c) f : sProp 𝕄) ⊢ iprop(∃ g, oAt d (coreRows c) g) from by iintro H; iexists f; iexact H)

/-- What the SparseCore call takes of device `d`: the encoding, the table and the result, whole. -/
theorem st_join (d : Dev nD) (f : Vec F S32x16 .f32) :
    iprop(at_ d main_v2 (encAt m d) ∗ at_ d main_arg3 (memIn m d) ∗ at_ d main_v3 f)
      ⊢ (bigSep Finset.univ fun c : Fin ((K (F := F)).nCore 0) => (P (encAt m) (memIn m)).st 0 d c : sProp 𝕄) := by
  show _ ⊢ (bigSep Finset.univ fun c : Fin ((K (F := F)).nCore 0) =>
    iprop(eAt (encAt m) d (coreShare (Fin.cast nCore_zero c)) ∗ mAt (memIn m) d (coreShare (Fin.cast nCore_zero c)) ∗ ∃ f, oAt d (coreRows (Fin.cast nCore_zero c)) f))
  rw [bigSep_cores (F := F) (fun c => iprop(eAt (encAt m) d (coreShare c) ∗ mAt (memIn m) d (coreShare c) ∗ ∃ f, oAt d (coreRows c) f)), bigSep_sep', bigSep_sep']
  iintro ⟨He, Hm, Ho⟩
  isplitl [He]; · iapply (BIBase.Entails.of_eq (deal_cores (ℓ := eLoc d) (encAt m d))); iexact He
  isplitl [Hm]; · iapply (BIBase.Entails.of_eq (deal_cores (ℓ := mLoc d) (memIn m d))); iexact Hm
  ihave Ho' := (BIBase.Entails.of_eq (rows_cores d f)) $$ Ho
  iapply (cores_any d f); iexact Ho'

/-- What it gives back: the same, the result at the subcores' least distances. -/
theorem dn_join (d : Dev nD) :
    (bigSep Finset.univ fun c : Fin ((K (F := F)).nCore 0) => (P (encAt m) (memIn m)).dn 0 d c : sProp 𝕄)
      ⊢ iprop(at_ d main_v2 (encAt m d) ∗ at_ d main_arg3 (memIn m d) ∗ at_ d main_v3 (scOut (encAt m d) (memIn m d))) := by
  show (bigSep Finset.univ fun c : Fin ((K (F := F)).nCore 0) =>
    iprop(eAt (encAt m) d (coreShare (Fin.cast nCore_zero c)) ∗ mAt (memIn m) d (coreShare (Fin.cast nCore_zero c))
      ∗ oAt d (coreRows (Fin.cast nCore_zero c)) (scOut (encAt m d) (memIn m d)))) ⊢ _
  rw [bigSep_cores (F := F) (fun c => iprop(eAt (encAt m) d (coreShare c) ∗ mAt (memIn m) d (coreShare c) ∗ oAt d (coreRows c) (scOut (encAt m d) (memIn m d)))),
    bigSep_sep', bigSep_sep']
  iintro ⟨He, Hm, Ho⟩
  isplitl [He]; · iapply (BIBase.Entails.of_eq (deal_cores (ℓ := eLoc d) (encAt m d)).symm); iexact He
  isplitl [Hm]; · iapply (BIBase.Entails.of_eq (deal_cores (ℓ := mLoc d) (memIn m d)).symm); iexact Hm
  iapply (BIBase.Entails.of_eq (rows_cores d (scOut (encAt m d) (memIn m d))).symm); iexact Ho

/-- What @main leaves: the arguments as they were, and the result. -/
abbrev FIN (d : Dev nD) : sProp 𝕄 :=
  iprop(at_ d main_arg0 (xIn m d) ∗ at_ d main_arg1 (wIn m d) ∗ at_ d main_arg2 (bIn m d) ∗ at_ d main_arg3 (memIn m d) ∗ at_ d main_arg4 (dataIn m d)
    ∗ at_ d main_v7 (outAt m d))

/-- @main on device `d`'s TensorCore. -/
theorem hmain (κ : GSem nD τ sig → ℕ) (d : Dev nD) :
    iprop((K (F := F)).ctx EH (P (encAt m) (memIn m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨a0, a1, a2, a3, a4, v0, v1, v2, v3, v4, cst, v5, v6, v7⟩, Hts, -⟩, ⟨G0, G1⟩⟩
  let V : Valuation τ sig (Elt F) := fun b => m (d, b)
  iapply (step_reshape V d main_arg2 main_v0 rfl shapeCasts_S4096_S1x4096 _ _ (by decide) _ _ _)
  isplitl [Hb]; · iexact Hb
  isplitl [a2]; · iexact a2
  isplitl [v0]; · iexact v0
  iintro ⟨Hb, a2, v0⟩
  iapply (step_enc (xIn m) (dataIn m) (wIn m) (bR m) (fun d => m ((d : Thread nD τ).loc main_v1)) (encRowAt m) (memIn m) (fun d => m ((d : Thread nD τ).loc main_v4)) d _)
  isplitl [Hb Hst a0 a4 a1 v0 v1]
  · isplitl [Hb]; · iexact Hb
    isplitl [Hst]; · iexact Hst
    isplitl [a0]; · iexact a0
    isplitl [a4]; · iexact a4
    isplitl [a1]; · iexact a1
    isplitl [v0]; · iexact v0
    iexact v1
  isplitr; · iapply ((K (F := F)).ctx_levAts κ); iexact Hctx
  isplitl [G0]; · iexact G0
  iintro ⟨Hb, Hst, a0, a4, a1, v0, v1⟩
  iapply (step_reshape V d main_v1 main_v2 rfl shapeCasts_S1x4096_S4096 _ _ (by decide) _ _ _)
  isplitl [Hb]; · iexact Hb
  isplitl [v1]; · iexact v1
  isplitl [v2]; · iexact v2
  iintro ⟨Hb, v1, v2⟩
  iapply ((K (F := F)).wp_run (D (F := F)) 𝒱 (EH := EH) (P := P (encAt m) (memIn m)) κ d 0)
  isplitr; · iexact Hctx
  isplitl [Hst]; · iexact Hst
  isplitl [v2 a3 v3]
  · iapply (st_join m d _)
    isplitl [v2]; · iexact v2
    isplitl [a3]; · iexact a3
    iexact v3
  iintro ⟨Hst, Hdn⟩
  ihave Hdn' := (dn_join m d) $$ Hdn
  icases Hdn' with ⟨v2, a3, v3⟩
  iapply (step_scan (xIn m) (dataIn m) (wIn m) (bR m) (fun d => m ((d : Thread nD τ).loc main_v1)) (encRowAt m) (memIn m) (fun d => m ((d : Thread nD τ).loc main_v4)) d _)
  isplitl [Hb Hst v1 a3 v4]
  · isplitl [Hb]; · iexact Hb
    isplitl [Hst]; · iexact Hst
    isplitl [v1]; · iexact v1
    isplitl [a3]; · iexact a3
    iexact v4
  isplitr; · iapply ((K (F := F)).ctx_levAts κ); iexact Hctx
  isplitl [G1]; · iexact G1
  iintro ⟨Hb, Hst, v1, a3, v4⟩
  iapply (step_nullary V d main_cst _ _ _ _)
  isplitl [Hb]; · iexact Hb
  isplitl [cst]; · iexact cst
  iintro ⟨Hb, cst⟩
  iapply (step_binary V d main_v3 main_cst main_v5 _ _ _ _ (by decide) (by decide) (by decide) _ _ _ _)
  isplitl [Hb]; · iexact Hb
  isplitl [v3]; · iexact v3
  isplitl [cst]; · iexact cst
  isplitl [v5]; · iexact v5
  iintro ⟨Hb, v3, cst, v5⟩
  iapply (step_reshape V d main_v4 main_v6 rfl shapeCasts_S1x1_S_ _ _ (by decide) _ _ _)
  isplitl [Hb]; · iexact Hb
  isplitl [v4]; · iexact v4
  isplitl [v6]; · iexact v6
  iintro ⟨Hb, v4, v6⟩
  iapply (step_binary V d main_v5 main_v6 main_v7 _ _ _ _ (by decide) (by decide) (by decide) _ _ _ _)
  isplitl [Hb]; · iexact Hb
  isplitl [v5]; · iexact v5
  isplitl [v6]; · iexact v6
  isplitl [v7]; · iexact v7
  iintro ⟨Hb, v5, v6, v7⟩
  imodintro
  isplitl [Hst]; · iexact Hst
  isplitr [Hb Hts]
  · isplitl [a0]; · iexact a0
    isplitl [a1]; · iexact a1
    isplitl [a2]; · iexact a2
    isplitl [a3]; · iexact a3
    isplitl [a4]; · iexact a4
    iexact v7
  isplitl [Hb] <;> iassumption

/-- The final memory, at the arguments and the result of device `d`. -/
def fq (d : Dev nD) (s' : Phys nD τ sig (Elt F)) : Prop :=
  s'.mem.mem ((d : Thread nD τ).loc main_arg0) = m ((d : Thread nD τ).loc main_arg0) ∧ s'.mem.mem ((d : Thread nD τ).loc main_arg1) = m ((d : Thread nD τ).loc main_arg1)
    ∧ s'.mem.mem ((d : Thread nD τ).loc main_arg2) = m ((d : Thread nD τ).loc main_arg2) ∧ s'.mem.mem ((d : Thread nD τ).loc main_arg3) = m ((d : Thread nD τ).loc main_arg3)
    ∧ s'.mem.mem ((d : Thread nD τ).loc main_arg4) = m ((d : Thread nD τ).loc main_arg4) ∧ s'.mem.mem ((d : Thread nD τ).loc main_v7) = outAt m d

/-- An array held whole at `v` is at `v` in memory. -/
theorem agree (d : Dev nD) (r : Ref sig .tc) (v : Buf (Elt F) ((d : Thread nD τ).loc r)) (s' : Phys nD τ sig (Elt F)) :
    iprop(SI s' ∗ at_ d r v) ⊢ (iprop(⌜s'.mem.mem ((d : Thread nD τ).loc r) = v⌝ ∗ SI s') : sProp 𝕄) := by
  iintro H
  ihave H' := (persistent_entails_right (SI_pointsTo_agree (st := s') (ℓ := (d : Thread nD τ).loc r) (I := Finset.univ) (q := fullShare) (f := v))) $$ H
  icases H' with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H3, H4, H7⟩, HSI⟩
  ihave H := (agree d main_arg0 _ s') $$ [HSI H0]; · isplitl [HSI] <;> iassumption
  icases H with ⟨%h0, HSI⟩
  ihave H := (agree d main_arg1 _ s') $$ [HSI H1]; · isplitl [HSI] <;> iassumption
  icases H with ⟨%h1, HSI⟩
  ihave H := (agree d main_arg2 _ s') $$ [HSI H2]; · isplitl [HSI] <;> iassumption
  icases H with ⟨%h2, HSI⟩
  ihave H := (agree d main_arg3 _ s') $$ [HSI H3]; · isplitl [HSI] <;> iassumption
  icases H with ⟨%h3, HSI⟩
  ihave H := (agree d main_arg4 _ s') $$ [HSI H4]; · isplitl [HSI] <;> iassumption
  icases H with ⟨%h4, HSI⟩
  ihave H := (agree d main_v7 _ s') $$ [HSI H7]; · isplitl [HSI] <;> iassumption
  icases H with ⟨%h7, -⟩
  ipureintro; exact ⟨h0, h1, h2, h3, h4, h7⟩

/-! ## The program's run -/

/-- Every run ends with the arguments as they were, the result the least distance, and no semaphore raised. -/
def QC : PUnit × MemSt nD τ sig (Elt F) → Prop := fun r =>
  (∀ d : Dev nD, r.2.mem ((d : Thread nD τ).loc main_arg0) = m ((d : Thread nD τ).loc main_arg0) ∧ r.2.mem ((d : Thread nD τ).loc main_arg1) = m ((d : Thread nD τ).loc main_arg1)
    ∧ r.2.mem ((d : Thread nD τ).loc main_arg2) = m ((d : Thread nD τ).loc main_arg2) ∧ r.2.mem ((d : Thread nD τ).loc main_arg3) = m ((d : Thread nD τ).loc main_arg3)
    ∧ r.2.mem ((d : Thread nD τ).loc main_arg4) = m ((d : Thread nD τ).loc main_arg4) ∧ r.2.mem ((d : Thread nD τ).loc main_v7) = outAt m d)
  ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (encAt m) (memIn m)) (A := ∅) facts v₀
    (fun q hq => match q with | 0 => nomatch hq)
    (fun q _ => match q with | 0 => tileObl _ _)
    (fun q _ => match q with | 0 => SparseCore.Cfg.VecSplit.of_plain (vecSplit _ _))
    m ρ main (G (F := F)) (FIN m) (u₀ (F := F)) (sep_elim_left.trans (hu₀ m)) (hmain m ρ) (fq m) (hfin m) (QC m) (fun _ h hz => ⟨h, hz⟩)

end Cert.Proof.Sc
-- ==== Proof.Same.lean ====
/-
  The kernel and its idealization are one program, the float values apart: their texts agree, and so do what they define.
-/
module

public import proofs.«01_k».proof.Defs
public import proofs.«01_k».proof.Proof.Gen.Kernel
public import proofs.«01_k».proof.Proof.Gen.KernelIdeal

@[expose] public section

noncomputable section

namespace Cert.Proof.Same

open Idealize.ShloMosaic Idealize.SL.Sem

variable {F : FTy → Type} [FloatOps F]

attribute [local instance] Cert.Kernel.Gen.facts Cert.KernelIdeal.Gen.facts

/-- The pipelines agree, -/
theorem pcfgs_eq : Cert.Kernel.pcfgs (F := F) = Cert.KernelIdeal.pcfgs (F := F) := rfl

/-- and the SparseCore call, -/
theorem sc_eq : Cert.Kernel.sc (F := F) = Cert.KernelIdeal.sc (F := F) := rfl

/-- and the bodies, processor by processor and label by label, -/
theorem bodies_eq : Cert.Kernel.defs₀ (F := F) = Cert.KernelIdeal.defs₀ (F := F) := by
  unfold Cert.Kernel.defs₀ Cert.KernelIdeal.defs₀
  funext p l a
  cases p with
  | tc =>
    match l, a with
    | 0, (_, _) => exact rfl
    | 1, _ => exact rfl
    | 2, (_, _) => exact rfl
  | scScalar _ =>
    match l, a with
    | 0, _ => exact rfl
    | 1, _ => exact rfl
    | 2, _ => exact rfl
  | scVector _ _ =>
    match l, a with
    | 0, _ => exact rfl
    | 1, _ => exact rfl
    | 2, _ => exact rfl

/-- and so the body tables, -/
theorem defs_eq : Cert.Kernel.defs (F := F) = Cert.KernelIdeal.defs (F := F) :=
  (congrArg (fun d => (Cert.Kernel.sc (F := F)).defs (Pipeline.defs Cert.Kernel.pcfgs d)) bodies_eq).trans rfl

set_option maxHeartbeats 2000000 in
/-- and @main, -/
theorem main_eq : Cert.Kernel.main (F := F) = Cert.KernelIdeal.main (F := F) := rfl

/-- and so what every thread runs. -/
theorem threads_eq : Cert.Kernel.threads (F := F) = Cert.KernelIdeal.threads (F := F) :=
  (congrArg (fun p => (Cert.Kernel.sc (F := F)).threads p) main_eq).trans rfl

/-- A run of the idealization's program is a run of the kernel's. -/
theorem run_of_ideal (s : MemSt Cert.Kernel.nD Cert.Kernel.τ Cert.Kernel.sig (Elt F))
    (Q : PUnit × MemSt Cert.Kernel.nD Cert.Kernel.τ Cert.Kernel.sig (Elt F) → Prop)
    (h : θ_run (Cert.KernelIdeal.defs (F := F)) (Cert.KernelIdeal.threads (F := F)) s Q) :
    θ_run (Cert.Kernel.defs (F := F)) (Cert.Kernel.threads (F := F)) s Q :=
  (congrArg₂ (fun d t => θ_run d t s Q) defs_eq threads_eq).mpr h

end Cert.Proof.Same

end
-- ==== Proof.ValueNorm.lean ====
/-
  The normalised entry of one column, on the extended reals: the kernel's one-pass variance and the
  reference's two-pass variance give the same entry, with infinities in the column or without.
-/
module

public import Idealize.ShloMosaic.Lib.Pointwise

@[expose] public section

noncomputable section

namespace Cert.Proof.Sc

open Idealize.ShloMosaic

/-- The word of sixteen thousand three hundred and eighty-four. -/
theorem word_rows : Ideal.ofBits .f32 0x46800000#32 = ((16384 : ℝ) : EReal) := by
  simp [Ideal.ofBits, Ideal.ieee, -EReal.coe_mul]; norm_num

/-- The word of one less. -/
theorem word_rows1 : Ideal.ofBits .f32 0x467FFC00#32 = ((16383 : ℝ) : EReal) := by
  simp [Ideal.ofBits, Ideal.ieee, -EReal.coe_mul]; norm_num

/-- The word of the positive infinity. -/
theorem word_inf : Ideal.ofBits .f32 0x7F800000#32 = ⊤ := by
  simp [Ideal.ofBits, Ideal.ieee]

/-- A column's mean. -/
def colMean (d : Fin 16384 → EReal) : EReal := Ideal.div (∑ k, d k) ((16384 : ℝ) : EReal)

/-- The deviation from the sum of squares, as the kernel computes it. -/
def onePass (d : Fin 16384 → EReal) : EReal :=
  Ideal.sqrt (max (Ideal.div ((∑ k, d k * d k) - ((16384 : ℝ) : EReal) * colMean d * colMean d) ((16383 : ℝ) : EReal)) 0)

/-- The deviation from the squared distances to the mean, as the reference computes it. -/
def twoPass (d : Fin 16384 → EReal) : EReal :=
  Ideal.sqrt (Ideal.div (∑ k, (d k - colMean d) * (d k - colMean d)) ((16383 : ℝ) : EReal))

/-- The entry, given the column's mean and deviation: zero when the deviation is zero. -/
def normed (x mean std : EReal) : EReal := if std = 0 then 0 else Ideal.div (x - mean) std

/-- A square is not negative. -/
theorem sq_nonneg' (x : EReal) : 0 ≤ x * x := by
  induction x with
  | bot => simp
  | top => simp
  | coe r => rw [← EReal.coe_mul]; exact EReal.coe_nonneg.mpr (mul_self_nonneg r)

/-- The square of an infinity. -/
theorem sq_inf {x : EReal} (h : x = ⊤ ∨ x = ⊥) : x * x = ⊤ := by
  rcases h with rfl | rfl <;> simp

/-- A sum of extended reals not negative, one of them infinite. -/
theorem sum_top {ι : Type*} [Fintype ι] (f : ι → EReal) (h0 : ∀ i, 0 ≤ f i) (i : ι) (hi : f i = ⊤) : ∑ k, f k = ⊤ :=
  top_le_iff.mp (hi ▸ Finset.single_le_sum (f := f) (fun k _ => h0 k) (Finset.mem_univ i))

/-- A sum with an infinity among its terms is infinite. -/
theorem sum_inf {ι : Type*} [Fintype ι] [DecidableEq ι] (f : ι → EReal) (i : ι) (hi : f i = ⊤ ∨ f i = ⊥) :
    ∑ k, f k = ⊤ ∨ ∑ k, f k = ⊥ := by
  rw [← Finset.add_sum_erase _ _ (Finset.mem_univ i)]
  rcases hi with h | h <;> rw [h]
  · by_cases hr : ∑ k ∈ Finset.univ.erase i, f k = ⊥
    · rw [hr]; exact .inr (by simp)
    · exact .inl (EReal.top_add_of_ne_bot hr)
  · exact .inr (by simp)

/-- An infinity divided by a positive real. -/
theorem div_inf {x : EReal} {y : ℝ} (hy : 0 < y) (h : x = ⊤ ∨ x = ⊥) : Ideal.div x ((y : ℝ) : EReal) = x := by
  rw [Ideal.div_coe hy.ne']
  have h1 : (0 : ℝ) < 1 / y := by positivity
  rcases h with rfl | rfl
  · exact EReal.top_mul_coe_of_pos h1
  · exact EReal.bot_mul_coe_of_pos h1

/-- Anything less an infinity is infinite. -/
theorem sub_inf (x : EReal) {y : EReal} (h : y = ⊤ ∨ y = ⊥) : x - y = ⊤ ∨ x - y = ⊥ := by
  rcases h with rfl | rfl
  · exact .inr (by induction x <;> rfl)
  · induction x with
    | bot => exact .inr rfl
    | top => exact .inl rfl
    | coe r => exact .inl rfl

/-- A sum of reals, read among the extended reals. -/
theorem coe_sum' {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The reals' identity: the squares' sum less the mean's share is the squared distances' sum. -/
theorem var_real (r : Fin 16384 → ℝ) :
    (∑ k, r k * r k) - 16384 * ((∑ k, r k) * (1 / 16384)) * ((∑ k, r k) * (1 / 16384))
      = ∑ k, (r k - (∑ k, r k) * (1 / 16384)) * (r k - (∑ k, r k) * (1 / 16384)) := by
  generalize hS : ∑ k, r k = S
  have : ∀ k, (r k - S * (1 / 16384)) * (r k - S * (1 / 16384)) = r k * r k - (2 * (S * (1 / 16384))) * r k + (S * (1 / 16384)) * (S * (1 / 16384)) := fun k => by ring
  simp_rw [this]
  rw [Finset.sum_add_distrib, Finset.sum_sub_distrib, ← Finset.mul_sum, hS, Finset.sum_const, Finset.card_univ, Fintype.card_fin]
  simp only [nsmul_eq_mul]
  push_cast
  ring

/-- On a column of reals the two deviations are one. -/
theorem onePass_real (r : Fin 16384 → ℝ) : onePass (fun k => (r k : EReal)) = twoPass (fun k => (r k : EReal)) := by
  have hm : colMean (fun k => (r k : EReal)) = (((∑ k, r k) * (1 / 16384) : ℝ) : EReal) := by
    unfold colMean
    rw [coe_sum', Ideal.div_coe (by norm_num), ← EReal.coe_mul]
  unfold onePass twoPass
  rw [hm]
  simp_rw [← EReal.coe_sub, ← EReal.coe_mul]
  rw [coe_sum', coe_sum', ← EReal.coe_sub, var_real, Ideal.div_coe (by norm_num), ← EReal.coe_mul]
  rw [max_eq_left]
  refine EReal.coe_nonneg.mpr (mul_nonneg (Finset.sum_nonneg fun k _ => mul_self_nonneg _) (by norm_num))

/-- With an infinity in the column the kernel's deviation is zero. -/
theorem onePass_inf (d : Fin 16384 → EReal) (i : Fin 16384) (hi : d i = ⊤ ∨ d i = ⊥) : onePass d = 0 := by
  have hS := sum_inf d i hi
  have hm : colMean d = ∑ k, d k := div_inf (by norm_num) hS
  have hQ : ∑ k, d k * d k = ⊤ := sum_top _ (fun k => sq_nonneg' _) i (sq_inf hi)
  have hN : ((16384 : ℝ) : EReal) * colMean d * colMean d = ⊤ := by
    rw [hm, mul_assoc, sq_inf hS]; exact EReal.coe_mul_top_of_pos (by norm_num)
  unfold onePass
  rw [hQ, hN, show (⊤ : EReal) - ⊤ = ⊥ from rfl, div_inf (by norm_num) (.inr rfl), max_eq_right bot_le]
  simpa using Ideal.sqrt_coe 0

/-- With an infinity in the column the reference's deviation is infinite. -/
theorem twoPass_inf (d : Fin 16384 → EReal) (i : Fin 16384) (hi : d i = ⊤ ∨ d i = ⊥) : twoPass d = ⊤ := by
  have hS := sum_inf d i hi
  have hm : colMean d = ∑ k, d k := div_inf (by norm_num) hS
  unfold twoPass
  rw [sum_top (fun k => (d k - colMean d) * (d k - colMean d)) (fun k => sq_nonneg' _) i (sq_inf (sub_inf _ (hm ▸ hS))), div_inf (by norm_num) (.inl rfl)]
  exact Ideal.sqrt_top

/-- The two normalised entries are equal, whatever the column holds. -/
theorem normed_eq (x : EReal) (d : Fin 16384 → EReal) :
    normed x (colMean d) (onePass d) = normed x (colMean d) (twoPass d) := by
  by_cases h : ∃ i, d i = ⊤ ∨ d i = ⊥
  · obtain ⟨i, hi⟩ := h
    rw [onePass_inf d i hi, twoPass_inf d i hi]
    unfold normed
    rw [if_pos rfl, if_neg (by simp)]
    unfold Ideal.div
    simp
  · push Not at h
    have : d = fun k => (((d k).toReal : ℝ) : EReal) := funext fun k => (EReal.coe_toReal (h k).1 (h k).2).symm
    rw [this, onePass_real]

end Cert.Proof.Sc

end
-- ==== Proof.ValueEnc.lean ====
/-
  The encoder's values on the extended reals: its running sums are whole sums.
-/
module

public import proofs.«01_k».proof.Proof.EncodeValue
public import proofs.«01_k».proof.Proof.ValueNorm
public import Idealize.ShloMosaic.Lib.Pointwise

@[expose] public section

noncomputable section

namespace Cert.Proof.Sc

open Cert.KernelIdeal Cert.KernelIdeal.Gen
open Idealize.ShloMosaic

/-- A sum over blocks, the block's number held below the number of blocks, is the whole sum. -/
theorem sum_blocks {N : ℕ} (J T : ℕ) (hN : (J + 1) * T = N) (f : Fin N → EReal)
    (hb : ∀ (s : ℕ) (r : Fin T), T * min s J + r.val < N) :
    ∑ s ∈ Finset.range (J + 1), ∑ r : Fin T, f ⟨T * min s J + r.val, hb s r⟩ = ∑ k : Fin N, f k := by
  rw [Fin.sum_univ_tiles (J + 1) T hN f, Finset.sum_range]
  refine Finset.sum_congr rfl fun s _ => Finset.sum_congr rfl fun r _ => congrArg f (Fin.ext ?_)
  have : min s.val J = s.val := Nat.min_eq_left (by omega)
  show T * min s.val J + r.val = s.val * T + r.val
  rw [this, Nat.mul_comm]

/-- The running sum after some blocks. -/
theorem sumAt_step (D : Vec Ideal S16384x2048 .f32) (j : Fin 2048) (t : ℕ) :
    sumAt (F := Ideal) D t (ix2 0 j) = ∑ s ∈ Finset.range (t + 1), ∑ r : Fin 1024, D (ix2 ⟨1024 * min s 15 + r.val, by have := r.isLt; omega⟩ j) := by
  induction t with
  | zero =>
    rw [Finset.sum_range_one]
    show k0_pay3 (memBlk D 0) (ix2 0 j) = _
    pointwise [k0_pay3, k0_pay1]
    rfl
  | succ t ih =>
    rw [Finset.sum_range_succ, ← ih]
    show k0_pay5 (memBlk D (t + 1)) (sumAt D t) (ix2 0 j) = _
    pointwise [k0_pay5, k0_pay1]
    rfl

/-- The running sum of squares after some blocks. -/
theorem sqAt_step (D : Vec Ideal S16384x2048 .f32) (j : Fin 2048) (t : ℕ) :
    sqAt (F := Ideal) D t (ix2 0 j) = ∑ s ∈ Finset.range (t + 1), ∑ r : Fin 1024,
      D (ix2 ⟨1024 * min s 15 + r.val, by have := r.isLt; omega⟩ j) * D (ix2 ⟨1024 * min s 15 + r.val, by have := r.isLt; omega⟩ j) := by
  induction t with
  | zero =>
    rw [Finset.sum_range_one]
    show k0_pay4 (memBlk D 0) (ix2 0 j) = _
    pointwise [k0_pay4, k0_pay2]
    rfl
  | succ t ih =>
    rw [Finset.sum_range_succ, ← ih]
    show k0_pay6 (memBlk D (t + 1)) (sqAt D t) (ix2 0 j) = _
    pointwise [k0_pay6, k0_pay2]
    rfl

/-- All the blocks: the column's sum. -/
theorem sumAt_all (D : Vec Ideal S16384x2048 .f32) (j : Fin 2048) :
    sumAt (F := Ideal) D 15 (ix2 0 j) = ∑ k : Fin 16384, D (ix2 k j) :=
  (sumAt_step D j 15).trans (sum_blocks 15 1024 rfl (fun k => D (ix2 k j)) fun _ r => by have := r.isLt; omega)

/-- All the blocks: the column's sum of squares. -/
theorem sqAt_all (D : Vec Ideal S16384x2048 .f32) (j : Fin 2048) :
    sqAt (F := Ideal) D 15 (ix2 0 j) = ∑ k : Fin 16384, D (ix2 k j) * D (ix2 k j) :=
  (sqAt_step D j 15).trans (sum_blocks 15 1024 rfl (fun k => D (ix2 k j) * D (ix2 k j)) fun _ r => by have := r.isLt; omega)

/-- The running product after some blocks. -/
theorem accAt_step (v : Vec Ideal S2048x1 .f32) (W : Vec Ideal S2048x4096 .f32) (j : Fin 4096) (t : ℕ) :
    accAt (F := Ideal) v W t (ix2 0 j) = ∑ s ∈ Finset.range (t + 1), ∑ r : Fin 512,
      v (ix2 ⟨512 * min s 3 + r.val, by have := r.isLt; omega⟩ 0) * W (ix2 ⟨512 * min s 3 + r.val, by have := r.isLt; omega⟩ j) := by
  induction t with
  | zero =>
    rw [Finset.sum_range_one]
    show k0_pay9 (colBlk v 0) (wBlk W 0) (ix2 0 j) = _
    pointwise [k0_pay9, k0_pay8]
    rfl
  | succ t ih =>
    rw [Finset.sum_range_succ, ← ih]
    show k0_pay10 (colBlk v (t + 1)) (wBlk W (t + 1)) (accAt v W t) (ix2 0 j) = _
    pointwise [k0_pay10, k0_pay8]
    rfl

/-- All the blocks: the product's entry. -/
theorem accAt_all (v : Vec Ideal S2048x1 .f32) (W : Vec Ideal S2048x4096 .f32) (j : Fin 4096) :
    accAt (F := Ideal) v W 3 (ix2 0 j) = ∑ k : Fin 2048, v (ix2 k 0) * W (ix2 k j) :=
  (accAt_step v W j 3).trans (sum_blocks 3 512 rfl (fun k => v (ix2 k 0) * W (ix2 k j)) fun _ r => by have := r.isLt; omega)

/-- The normalised vector's entry. -/
theorem newV_apply (x : Vec Ideal S1x2048 .f32) (D : Vec Ideal S16384x2048 .f32) (k : Fin 2048) :
    newV (F := Ideal) x D (ix2 k 0) = normed (x (ix2 0 k)) (colMean fun i => D (ix2 i k)) (onePass fun i => D (ix2 i k)) := by
  unfold newV
  pointwise [k0_pay7, sumAt_all, sqAt_all, word_rows, word_rows1]
  rfl

/-- The encoding's entry. -/
theorem encOut_apply (x : Vec Ideal S1x2048 .f32) (D : Vec Ideal S16384x2048 .f32) (W : Vec Ideal S2048x4096 .f32) (b : Vec Ideal S1x4096 .f32) (j : Fin 4096) :
    encOut (F := Ideal) x D W b (ix2 0 j) = Ideal.tanh ((∑ k : Fin 2048, newV x D (ix2 k 0) * W (ix2 k j)) + b (ix2 0 j)) := by
  unfold encOut
  pointwise [k0_pay11, accAt_all]

end Cert.Proof.Sc

end
-- ==== Proof.ValueDist.lean ====
/-
  The distance scans' values on the extended reals: each row's distance is one sum of 4096 terms, and each
  minimum is the greatest lower bound of its rows' distances.
-/
module

public import proofs.«01_k».proof.Proof.Main
public import proofs.«01_k».proof.Proof.ValueNorm
public import Idealize.ShloMosaic.Lib.Pointwise

@[expose] public section

noncomputable section

namespace Cert.Proof.Sc

open Cert.KernelIdeal Cert.KernelIdeal.Gen
open Idealize.ShloMosaic

/-- The distance of two rows: the sum of the absolute differences. -/
def l1 (a b : Fin 4096 → EReal) : EReal := ∑ j, FloatOps.absf (F := Ideal) (φ := .f32) (a j - b j)

/-- Row `r` of the table. -/
def rowOf (M : Vec Ideal S16384x4096 .f32) (r : ℕ) : Fin 4096 → EReal := fun j => M (ix2 ⟨r % 16384, Nat.mod_lt _ (by decide)⟩ j)

/-- A lower bound of two is one of each. -/
theorem le_minimumf (c a b : EReal) : c ≤ FloatOps.minimumf (F := Ideal) (φ := .f32) a b ↔ c ≤ a ∧ c ≤ b := le_min_iff

/-- The host's minimum over everything: its lower bounds are the elements' lower bounds. -/
theorem le_hostMin {s : Shape} {axes : List (Fin s.rank)} (x : FVec Ideal s .f32) (h : s.ReducesTo axes S_) (hu : 0 < S_.numel) (j : S_.Idx) (c : EReal) :
    c ≤ Host.reduce (FloatOps.minimumf (F := Ideal)) x (constant S_ .f32 0x7F800000#32) h hu j ↔ ∀ i, c ≤ x i := by
  rw [Host.reduce_eq_fold]
  refine (Finset.le_fold_min c).trans ⟨fun h i => h.2 i (Finset.mem_filter.mpr ⟨Finset.mem_univ _, Subsingleton.elim _ _⟩), fun h => ⟨?_, fun i _ => h i⟩⟩
  show c ≤ Ideal.ofBits .f32 0x7F800000#32
  rw [word_inf]
  exact le_top

/-- The four exchanges leave every lane the sum of all. -/
theorem lsum_apply (v : FVec Ideal S16 .f32) (l : Fin 16) : lsum (F := Ideal) v (ix1 l) = ∑ k : Fin 16, v (ix1 k) := by
  unfold lsum lx
  pointwise
  generalize hf : (fun k : Fin 16 => v (ix1 k)) = f
  have hv : ∀ k : Fin 16, v (ix1 k) = f k := fun k => congrFun hf k
  simp only [hv]
  clear hf hv v
  fin_cases l <;> simp [Fin.sum_univ_succ] <;> abel

/-- A lane's partial sum. -/
theorem accN_apply (B : Vec Ideal S8x4096 .f32) (E : Vec Ideal S4096 .f32) (r : Fin 8) (l : Fin 16) (t : ℕ) :
    accN (F := Ideal) B E r t (ix1 l) = ∑ s ∈ Finset.range t, FloatOps.absf (F := Ideal) (φ := .f32)
      (B (ix2 r ⟨(16 * s + l.val) % 4096, Nat.mod_lt _ (by decide)⟩) - E (ix1 ⟨(16 * s + l.val) % 4096, Nat.mod_lt _ (by decide)⟩)) := by
  induction t with
  | zero =>
    rw [Finset.sum_range_zero]
    show k1_pay23 (ix1 l) = _
    pointwise [k1_pay23]
  | succ t ih =>
    rw [Finset.sum_range_succ, ← ih]
    show k1_pay12 (accN B E r t) (ldE E t) (ldRow B r t) (ix1 l) = _
    pointwise [k1_pay12, k1_pay11]
    rfl

/-- The lanes' partial sums together are the row's distance. -/
theorem lsum_accN (B : Vec Ideal S8x4096 .f32) (E : Vec Ideal S4096 .f32) (r : Fin 8) (l : Fin 16) :
    lsum (F := Ideal) (accN B E r 256) (ix1 l) = l1 (fun j => B (ix2 r j)) (fun j => E (ix1 j)) := by
  rw [lsum_apply]
  simp_rw [accN_apply]
  rw [Finset.sum_comm, Finset.sum_range]
  unfold l1
  rw [Fin.sum_univ_tiles (N := 4096) 256 16 rfl]
  refine Finset.sum_congr rfl fun s _ => Finset.sum_congr rfl fun k _ => ?_
  have : (⟨(16 * s.val + k.val) % 4096, Nat.mod_lt _ (by decide)⟩ : Fin 4096) = ⟨s.val * 16 + k.val, by have := s.isLt; have := k.isLt; omega⟩ :=
    Fin.ext (by have := s.isLt; have := k.isLt; show (16 * s.val + k.val) % 4096 = s.val * 16 + k.val; omega)
  rw [this]

/-- A row's step of the running minimum. -/
theorem le_rowMin (B : Vec Ideal S8x4096 .f32) (E : Vec Ideal S4096 .f32) (mn : FVec Ideal S16 .f32) (r : Fin 8) (l : Fin 16) (c : EReal) :
    c ≤ rowMin (F := Ideal) B E mn r (ix1 l) ↔ c ≤ mn (ix1 l) ∧ c ≤ l1 (fun j => B (ix2 r j)) (fun j => E (ix1 j)) := by
  rw [← lsum_accN B E r l]
  exact le_min_iff

/-- A chunk's step of the running minimum. -/
theorem le_chunkMin (B : Vec Ideal S8x4096 .f32) (E : Vec Ideal S4096 .f32) (mn : FVec Ideal S16 .f32) (l : Fin 16) (c : EReal) :
    c ≤ chunkMin (F := Ideal) B E mn (ix1 l) ↔ c ≤ mn (ix1 l) ∧ ∀ r : Fin 8, c ≤ l1 (fun j => B (ix2 r j)) (fun j => E (ix1 j)) := by
  unfold chunkMin
  simp only [le_rowMin, and_assoc]
  refine and_congr_right fun _ => ⟨fun ⟨h0, h1, h2, h3, h4, h5, h6, h7⟩ r => ?_, fun h => ⟨h 0, h 1, h 2, h 3, h 4, h 5, h 6, h 7⟩⟩
  fin_cases r
  exacts [h0, h1, h2, h3, h4, h5, h6, h7]

/-- A subcore's running minimum after some trips. -/
theorem le_tripMin (M : Vec Ideal S16384x4096 .f32) (E : Vec Ideal S4096 .f32) (o : ℕ) (l : Fin 16) (c : EReal) (n : ℕ) :
    c ≤ tripMin (F := Ideal) M E o n (ix1 l) ↔ ∀ r < 16 * n, c ≤ l1 (rowOf M (o + r)) (fun j => E (ix1 j)) := by
  induction n with
  | zero =>
    refine ⟨fun _ r hr => absurd hr (by omega), fun _ => ?_⟩
    show c ≤ Ideal.ofBits .f32 0x7F800000#32
    rw [word_inf]
    exact le_top
  | succ n ih =>
    show c ≤ chunkMin (chunk M (o + 8 * (2 * n + 1))) E (chunkMin (chunk M (o + 8 * (2 * n))) E (tripMin M E o n)) (ix1 l) ↔ _
    rw [le_chunkMin, le_chunkMin, ih]
    have key : ∀ (a : ℕ) (r : Fin 8), (fun j => chunk (F := Ideal) M a (ix2 r j)) = rowOf M (a + r.val) := fun _ _ => rfl
    simp only [key]
    constructor
    · rintro ⟨⟨h0, h1⟩, h2⟩ r hr
      by_cases ha : r < 16 * n
      · exact h0 r ha
      by_cases hb : r < 16 * n + 8
      · have := h1 ⟨r - 16 * n, by omega⟩
        rwa [show o + 8 * (2 * n) + (⟨r - 16 * n, by omega⟩ : Fin 8).val = o + r by show o + 8 * (2 * n) + (r - 16 * n) = o + r; omega] at this
      · have := h2 ⟨r - (16 * n + 8), by omega⟩
        rwa [show o + 8 * (2 * n + 1) + (⟨r - (16 * n + 8), by omega⟩ : Fin 8).val = o + r by show o + 8 * (2 * n + 1) + (r - (16 * n + 8)) = o + r; omega] at this
    · intro h
      refine ⟨⟨fun r hr => h r (by omega), fun r => ?_⟩, fun r => ?_⟩
      · have := h (16 * n + r.val) (by omega)
        rwa [show o + (16 * n + r.val) = o + 8 * (2 * n) + r.val by omega] at this
      · have := h (16 * n + 8 + r.val) (by omega)
        rwa [show o + (16 * n + 8 + r.val) = o + 8 * (2 * n + 1) + r.val by omega] at this

/-- A block's least distance on the TensorCore. -/
theorem le_blk (B : Vec Ideal S512x4096 .f32) (e : Vec Ideal S1x4096 .f32) (c : EReal) :
    c ≤ k2_pay1 (F := Ideal) B e ↔ ∀ r : Fin 512, c ≤ l1 (fun j => B (ix2 r j)) (fun j => e (ix2 0 j)) := by
  pointwise [k2_pay1]
  rw [word_inf]
  exact (Finset.le_fold_min c).trans ⟨fun h r => h.2 (r, 0) (Finset.mem_univ _), fun h => ⟨le_top, fun x _ => h x.1⟩⟩

/-- The TensorCore's running minimum. -/
theorem le_scanAt (e : Vec Ideal S1x4096 .f32) (M : Vec Ideal S16384x4096 .f32) (c : EReal) (t : ℕ) :
    c ≤ scanAt (F := Ideal) e M t ↔ ∀ s ≤ t, ∀ r : Fin 512, c ≤ l1 (rowOf M (512 * (14 + min s 17) + r.val)) (fun j => e (ix2 0 j)) := by
  have key : ∀ (s : ℕ) (r : Fin 512), (fun j => scanBlk (F := Ideal) M s (ix2 r j)) = rowOf M (512 * (14 + min s 17) + r.val) := fun s r =>
    funext fun j => congrArg (fun a => M (ix2 a j)) (Fin.ext (by
      show 512 * (14 + min s 17) + r.val = (512 * (14 + min s 17) + r.val) % 16384
      have := r.isLt
      omega))
  induction t with
  | zero =>
    show c ≤ k2_pay1 (scanBlk M 0) e ↔ _
    rw [le_blk]
    simp only [key]
    exact ⟨fun h s hs => by obtain rfl : s = 0 := by omega
                            exact h, fun h => h 0 le_rfl⟩
  | succ t ih =>
    show c ≤ min (scanAt e M t) (k2_pay1 (scanBlk M (t + 1)) e) ↔ _
    refine (le_min_iff.trans (and_congr ih (le_blk _ _ _))).trans ?_
    simp only [key]
    constructor
    · rintro ⟨h0, h1⟩ s hs
      by_cases ha : s ≤ t
      · exact h0 s ha
      · obtain rfl : s = t + 1 := by omega
        exact h1
    · exact fun h => ⟨fun s hs => h s (by omega), h (t + 1) le_rfl⟩

/-- The kernel's result: its lower bounds are the lower bounds of all the rows' distances. -/
theorem le_least (e : Vec Ideal S1x4096 .f32) (M : Vec Ideal S16384x4096 .f32) (c : EReal) (j : S_.Idx) :
    c ≤ least (F := Ideal) e M j ↔ ∀ r : Fin 16384, c ≤ l1 (fun k => M (ix2 r k)) (fun k => e (ix2 0 k)) := by
  have hrow : ∀ r : Fin 16384, (fun k => M (ix2 r k)) = rowOf M r.val := fun r =>
    funext fun k => congrArg (fun a => M (ix2 a k)) (Fin.ext (Nat.mod_eq_of_lt r.isLt).symm)
  have hvec : (fun k => encVec (F := Ideal) e (ix1 k)) = fun k => e (ix2 0 k) := funext fun k => by
    unfold encVec
    pointwise
  have hscan : ∀ i : S1x1.Idx, scanOut (F := Ideal) e M i = scanAt e M 17 := fun _ => rfl
  have hl : c ≤ least (F := Ideal) e M j ↔
      c ≤ Host.reduce (FloatOps.minimumf (F := Ideal)) (scOut (encVec e) M) (constant S_ .f32 0x7F800000#32) reducesTo_S32x16_S_d0_1 h_S_ j
        ∧ c ≤ scanAt (F := Ideal) e M 17 := le_min_iff
  rw [hl, le_hostMin, le_scanAt]
  simp only [hrow]
  constructor
  · rintro ⟨h0, h1⟩ r
    by_cases hr : r.val < 7168
    · have := (le_tripMin M (encVec e) (r.val / 224 * 224) 0 c 14).mp (h0 (ix2 ⟨r.val / 224, by omega⟩ 0)) (r.val % 224) (by omega)
      rwa [hvec, show r.val / 224 * 224 + r.val % 224 = r.val by omega] at this
    · have := h1 (r.val / 512 - 14) (by omega) ⟨r.val % 512, by omega⟩
      rwa [show 512 * (14 + min (r.val / 512 - 14) 17) + (⟨r.val % 512, by omega⟩ : Fin 512).val = r.val by
        show 512 * (14 + min (r.val / 512 - 14) 17) + r.val % 512 = r.val
        omega] at this
  · intro h
    constructor
    · intro i
      have h0 : (i 0).val < 32 := (i 0).isLt
      refine (le_tripMin M (encVec e) ((i 0).val * 224) (i 1) c 14).mpr fun r hr => ?_
      rw [hvec]
      exact h ⟨(i 0).val * 224 + r, by omega⟩
    · exact fun s hs r => h ⟨512 * (14 + min s 17) + r.val, by have := r.isLt; omega⟩

end Cert.Proof.Sc

end
-- ==== Proof.ValueRef.lean ====
/-
  The reference's composed term, cut into its parts, and each part read at an index.
-/
module

public import proofs.«01_k».proof.Proof.Gen.ReferenceIdeal.Run
public import proofs.«01_k».proof.Proof.ValueNorm
public import Idealize.ShloMosaic.Lib.Pointwise

@[expose] public section

noncomputable section

namespace Cert.Proof.Ref

open Cert.ReferenceIdeal Cert.ReferenceIdeal.Gen
open Cert.Proof.Sc (colMean twoPass normed word_rows word_inf)
open Idealize.ShloMosaic

/-- The zero the reference's reductions start from. -/
def zero : FVec Ideal S_ .f32 := constant S_ .f32 0x00000000#32

/-- The number of remembered rows. -/
def rows : FVec Ideal S_ .f32 := constant S_ .f32 0x46800000#32

/-- The number of rows less one. -/
def rows1 : FVec Ideal S_ .f32 := subf (constant S_ .f32 0x46800000#32) (sitofp .f32 (constantI S_ 32 1#32))

/-- The columns' sums. -/
def sums (D : FVec Ideal S16384x2048 .f32) : FVec Ideal S2048 .f32 := Host.reduceAdd D zero reducesTo_S16384x2048_S2048_d0 h_S_

/-- The columns' means. -/
def mean (D : FVec Ideal S16384x2048 .f32) : FVec Ideal S2048 .f32 := Host.divf (sums D) (broadcastInDim S2048 ![] bcast_S_S2048 rows)

/-- The entries' distances to their columns' means. -/
def dev (D : FVec Ideal S16384x2048 .f32) : FVec Ideal S16384x2048 .f32 :=
  subf D (broadcastInDim S16384x2048 ![0, 1] bcast_S1x2048_S16384x2048_0_1 (Host.divf (broadcastInDim S1x2048 ![1] bcast_S2048_S1x2048_1 (sums D)) (broadcastInDim S1x2048 ![] bcast_S_S1x2048 rows)))

/-- The columns' deviations. -/
def std (D : FVec Ideal S16384x2048 .f32) : FVec Ideal S2048 .f32 :=
  Host.sqrt (select (broadcastInDim S2048 ![] bcast_S_S2048 (cmpf .ogt rows1 zero))
    (Host.divf (Host.reduceAdd (mulf (dev D) (dev D)) zero reducesTo_S16384x2048_S2048_d0 h_S_) (broadcastInDim S2048 ![] bcast_S_S2048 rows1))
    (broadcastInDim S2048 ![] bcast_S_S2048 (id (constant S_ .f32 0x7FC00000#32))))

/-- The normalised row. -/
def new (x : FVec Ideal S1x2048 .f32) (D : FVec Ideal S16384x2048 .f32) : FVec Ideal S1x2048 .f32 :=
  select (broadcastInDim S1x2048 ![1] bcast_S2048_S1x2048_1 (cmpf .oeq (std D) (broadcastInDim S2048 ![] bcast_S_S2048 zero)))
    (broadcastInDim S1x2048 ![] bcast_S_S1x2048 zero)
    (Host.divf (subf x (broadcastInDim S1x2048 ![1] bcast_S2048_S1x2048_1 (mean D))) (broadcastInDim S1x2048 ![1] bcast_S2048_S1x2048_1 (std D)))

/-- The encoding. -/
def enc (v : FVec Ideal S1x2048 .f32) (W : FVec Ideal S2048x4096 .f32) (b : FVec Ideal S4096 .f32) : FVec Ideal S1x4096 .f32 :=
  Host.tanh (addf (Host.dotGeneral dot_S1x2048_S2048x4096_S1x4096_1_0_0_1_n_n none v W) (broadcastInDim S1x4096 ![1] bcast_S4096_S1x4096_1 b))

/-- Every memory row's distance to the encoding. -/
def dist (e : FVec Ideal S1x4096 .f32) (M : FVec Ideal S16384x4096 .f32) : FVec Ideal S16384 .f32 :=
  Host.reduceAdd (Host.absf (subf M (broadcastInDim S16384x4096 ![0, 1] bcast_S1x4096_S16384x4096_0_1 (broadcastInDim S1x4096 ![1] bcast_S4096_S1x4096_1 (shapeCast _ e shapeCasts_S1x4096_S4096)))))
    zero reducesTo_S16384x4096_S16384_d1 h_S_

/-- The least distance. -/
def least (e : FVec Ideal S1x4096 .f32) (M : FVec Ideal S16384x4096 .f32) : FVec Ideal S_ .f32 :=
  Host.reduce FloatOps.minimumf (dist e M) (constant S_ .f32 0x7F800000#32) reducesTo_S16384_S_d0 h_S_

/-- A column's sum. -/
theorem sums_apply (D : FVec Ideal S16384x2048 .f32) (k : Fin 2048) : sums D (ix1 k) = ∑ i : Fin 16384, D (ix2 i k) := by
  pointwise [sums, zero]

/-- A column's mean. -/
theorem mean_apply (D : FVec Ideal S16384x2048 .f32) (k : Fin 2048) : mean D (ix1 k) = colMean fun i => D (ix2 i k) := by
  pointwise [mean, sums_apply, rows, word_rows]
  rfl

/-- An entry's distance to its column's mean. -/
theorem dev_apply (D : FVec Ideal S16384x2048 .f32) (i : Fin 16384) (k : Fin 2048) :
    dev D (ix2 i k) = D (ix2 i k) - colMean fun i => D (ix2 i k) := by
  pointwise [dev, sums_apply, rows, word_rows]
  rfl

/-- One less than the number of rows. -/
theorem rows1_val : ((16384 : ℝ) : EReal) - FloatOps.sitofp (F := Ideal) .f32 (1#32 : BitVec 32) = ((16383 : ℝ) : EReal) := by
  show ((16384 : ℝ) : EReal) - (((1#32 : BitVec 32).toInt : ℝ) : EReal) = _
  rw [show (1#32 : BitVec 32).toInt = 1 from rfl, ← EReal.coe_sub]
  norm_num

/-- A column's deviation. -/
theorem std_apply (D : FVec Ideal S16384x2048 .f32) (k : Fin 2048) : std D (ix1 k) = twoPass fun i => D (ix2 i k) := by
  pointwise [std, dev_apply, rows1, zero, word_rows, rows1_val]
  rw [if_pos (EReal.coe_pos.mpr (by norm_num))]
  rfl

/-- The normalised row's entry. -/
theorem new_apply (x : FVec Ideal S1x2048 .f32) (D : FVec Ideal S16384x2048 .f32) (k : Fin 2048) :
    new x D (ix2 0 k) = normed (x (ix2 0 k)) (colMean fun i => D (ix2 i k)) (twoPass fun i => D (ix2 i k)) := by
  pointwise [new, std_apply, mean_apply, zero]
  rfl

/-- The encoding's entry. -/
theorem enc_apply (v : FVec Ideal S1x2048 .f32) (W : FVec Ideal S2048x4096 .f32) (b : FVec Ideal S4096 .f32) (j : Fin 4096) :
    enc v W b (ix2 0 j) = Ideal.tanh ((∑ k : Fin 2048, v (ix2 0 k) * W (ix2 k j)) + b (ix1 j)) := by
  pointwise [enc]

/-- A memory row's distance. -/
theorem dist_apply (e : FVec Ideal S1x4096 .f32) (M : FVec Ideal S16384x4096 .f32) (r : Fin 16384) :
    dist e M (ix1 r) = ∑ j : Fin 4096, FloatOps.absf (F := Ideal) (φ := .f32) (M (ix2 r j) - e (ix2 0 j)) := by
  pointwise [dist, zero]

end Cert.Proof.Ref

end
-- ==== Proof.Value.lean ====
/-
  The two results are one: the kernel's term and the reference's term, on the extended reals.
-/
module

public import proofs.«01_k».proof.Proof.ValueEnc
public import proofs.«01_k».proof.Proof.ValueDist
public import proofs.«01_k».proof.Proof.ValueRef

@[expose] public section

noncomputable section

namespace Cert.Proof.Value

open Cert.KernelIdeal Cert.KernelIdeal.Gen
open Cert.Proof.Sc
open Idealize.ShloMosaic

/-- The kernel's normalised vector, a column, is the reference's, a row. -/
theorem new_eq (x : Vec Ideal S1x2048 .f32) (D : Vec Ideal S16384x2048 .f32) (k : Fin 2048) :
    newV (F := Ideal) x D (ix2 k 0) = Ref.new x D (ix2 0 k) :=
  (newV_apply x D k).trans ((normed_eq _ _).trans (Ref.new_apply x D k).symm)

/-- The bias as a row. -/
theorem bRow_apply (b : Vec Ideal S4096 .f32) (j : Fin 4096) : bRow (F := Ideal) b (ix2 0 j) = b (ix1 j) := by
  unfold bRow
  pointwise

/-- The two encodings are one. -/
theorem enc_eq (x : Vec Ideal S1x2048 .f32) (D : Vec Ideal S16384x2048 .f32) (W : Vec Ideal S2048x4096 .f32) (b : Vec Ideal S4096 .f32) (j : Fin 4096) :
    encRow (F := Ideal) x D W b (ix2 0 j) = Ref.enc (Ref.new x D) W b (ix2 0 j) := by
  refine (encOut_apply x D W (bRow b) j).trans (Eq.trans ?_ (Ref.enc_apply (Ref.new x D) W b j).symm)
  simp_rw [new_eq, bRow_apply]

/-- The reference's result: its lower bounds are the lower bounds of all the rows' distances. -/
theorem le_ref (e : Vec Ideal S1x4096 .f32) (M : Vec Ideal S16384x4096 .f32) (c : EReal) (j : S_.Idx) :
    c ≤ Ref.least e M j ↔ ∀ r : Fin 16384, c ≤ l1 (fun k => M (ix2 r k)) (fun k => e (ix2 0 k)) := by
  refine (le_hostMin (Ref.dist e M) _ _ j c).trans ⟨fun h r => ?_, fun h i => ?_⟩
  · have := h (ix1 r)
    rwa [Ref.dist_apply] at this
  · obtain ⟨r, rfl⟩ : ∃ r : Fin 16384, i = ix1 r := ⟨i 0, eq_ix1 i⟩
    rw [Ref.dist_apply]
    exact h r

/-- The two results are one. -/
theorem least_eq (x : Vec Ideal S1x2048 .f32) (D : Vec Ideal S16384x2048 .f32) (W : Vec Ideal S2048x4096 .f32) (b : Vec Ideal S4096 .f32) (M : Vec Ideal S16384x4096 .f32) :
    Sc.least (F := Ideal) (encRow x D W b) M = Ref.least (Ref.enc (Ref.new x D) W b) M := by
  have he : (fun k => encRow (F := Ideal) x D W b (ix2 0 k)) = fun k => Ref.enc (Ref.new x D) W b (ix2 0 k) := funext (enc_eq x D W b)
  refine funext fun j => eq_of_forall_le_iff fun c => ?_
  rw [le_least, he]
  exact (le_ref _ _ _ _).symm

end Cert.Proof.Value

end
-- ==== Proof.lean ====
module

public import proofs.«01_k».proof.Defs
public import proofs.«01_k».proof.Proof.Gen.ReferenceIdeal
public import proofs.«01_k».proof.Proof.Gen.ReferenceIdeal.Run
public import proofs.«01_k».proof.Proof.Main
public import proofs.«01_k».proof.Proof.Same
public import proofs.«01_k».proof.Proof.Value

@[expose] public section

namespace Cert.Proof

open Idealize.ShloMosaic Idealize.SL.Sem

/-- Every run of the kernel ends with its arguments as they were and no semaphore raised: the idealization's run, which
    is stated for any float values, is the kernel's. -/
theorem frame_kernel : Cert.quiescent_Kernel := fun m ρ _ =>
  Same.run_of_ideal _ _ ((θ_run Cert.KernelIdeal.defs _ _).mono
    (fun _ h => ⟨fun c => ⟨(h.1 c).1, (h.1 c).2.1, (h.1 c).2.2.1, (h.1 c).2.2.2.1, (h.1 c).2.2.2.2.1⟩, h.2⟩)
    (Sc.run_main (F := Bits) m ρ))

/-- The same of its idealization. -/
theorem frame_ideal : Cert.quiescent_KernelIdeal := fun m ρ _ =>
  (θ_run Cert.KernelIdeal.defs _ _).mono (fun _ h => ⟨fun c => ⟨(h.1 c).1, (h.1 c).2.1, (h.1 c).2.2.1, (h.1 c).2.2.2.1, (h.1 c).2.2.2.2.1⟩, h.2⟩)
    (Sc.run_main (F := Ideal) m ρ)

/-- The same of the idealized reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On equal arguments the idealized kernel and the idealized reference end with the same result. -/
theorem algebraic : Cert.algebraic_KernelIdeal_ReferenceIdeal := fun m g m' g' _ hm =>
  ⟨fun c => Sc.outAt (F := Ideal) m c,
    (θ_run Cert.KernelIdeal.defs _ _).mono
      (fun _ h c => ⟨(h.1 c).2.2.2.2.2, (h.1 c).1, (h.1 c).2.1, (h.1 c).2.2.1, (h.1 c).2.2.2.1, (h.1 c).2.2.2.2.1⟩)
      (Sc.run_main (F := Ideal) m g),
    (θ_run Cert.ReferenceIdeal.defs _ _).mono
      (fun r h c => ⟨(h c).1.trans (by
        obtain ⟨h0, h1, h2, h3, h4⟩ := hm c
        rw [h0, h1, h2, h3, h4]
        exact (Value.least_eq (Sc.xIn m c) (Sc.dataIn m c) (Sc.wIn m c) (Sc.bIn m c) (Sc.memIn m c)).symm), (h c).2⟩)
      (Cert.ReferenceIdeal.Value.run (F := Ideal) m' g')⟩

/-- All that is claimed. -/
theorem claim : Cert.Claim := ⟨Cert.Kernel.Gen.facts, Cert.KernelIdeal.Gen.facts, Cert.ReferenceIdeal.Gen.facts, frame_kernel, frame_ideal, frame_reference, trivial, algebraic⟩

end Cert.Proof
